-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 12288]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![12288, 1536]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![96, 1536]⟩ ⟨2, ![1536, 1536]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S96x1536 : Shape := ⟨2, ![96, 1536]⟩
abbrev S9x96x384 : Shape := ⟨3, ![9, 96, 384]⟩
abbrev S8x96x384 : Shape := ⟨3, ![8, 96, 384]⟩
abbrev S9 : Shape := ⟨1, ![9]⟩
abbrev S8 : Shape := ⟨1, ![8]⟩
abbrev S_ : Shape := ⟨0, ![]⟩
abbrev S96x768 : Shape := ⟨2, ![96, 768]⟩
abbrev S96x384 : Shape := ⟨2, ![96, 384]⟩
abbrev S1x96x384 : Shape := ⟨3, ![1, 96, 384]⟩
abbrev S1 : Shape := ⟨1, ![1]⟩

abbrev nBuf : Space → Nat
  | .hbm => 3
  | .vmem => 11
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S96x1536, .f32⟩
  | .local _ .vmem, ⟨0, _⟩ => ⟨S1536x768, .f32⟩
  | .local _ .vmem, ⟨1, _⟩ => ⟨S768x1536, .f32⟩
  | .local _ .vmem, ⟨2, _⟩ => ⟨S96x1536, .f32⟩
  | .local _ .vmem, ⟨3, _⟩ => ⟨S9x96x384, .bf16⟩
  | .local _ .vmem, ⟨4, _⟩ => ⟨S9x96x384, .bf16⟩
  | .local _ .vmem, ⟨5, _⟩ => ⟨S9x96x384, .bf16⟩
  | .local _ .vmem, ⟨6, _⟩ => ⟨S9x96x384, .bf16⟩
  | .local _ .vmem, ⟨7, _⟩ => ⟨S8x96x384, .bf16⟩
  | .local _ .vmem, ⟨8, _⟩ => ⟨S8x96x384, .bf16⟩
  | .local _ .vmem, ⟨9, _⟩ => ⟨S8x96x384, .bf16⟩
  | .local _ .vmem, ⟨10, _⟩ => ⟨S8x96x384, .bf16⟩
  | _, _ => ⟨S1536x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 139 → Bool
  | ⟨i, _⟩ => dmaSemScopedAt i

abbrev sig : RefSig :=
  (ofTc nBuf bufTy 1 139 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_149 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_148 : BitVec 32 := 1#32
  let v171 : BitVec 32 := Scalar.muli v109 c1_i32_148
  let v172 : BitVec 32 := Scalar.addi c0_i32_149 v171
  v172.toNat
def k0_dev2 (d0 : Dev nD) : Nat :=
  let c0_i32_152 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_151 : BitVec 32 := 1#32
  let v173 : BitVec 32 := Scalar.muli v169 c1_i32_151
  let v174 : BitVec 32 := Scalar.addi c0_i32_152 v173
  v174.toNat
def k0_off1 (d0 : Dev nD) (c8_i32_153 : BitVec 32) : Fin 2 → Nat :=
  let c0_i32_163 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let v175 : BitVec 32 := Scalar.addi v50 c8_i32_153
  let c16_i32_154 : BitVec 32 := 16#32
  let c0_i32_155 : BitVec 32 := 0#32
  let v176 : BitVec 1 := Scalar.cmpi .eq c16_i32_154 c0_i32_155
  let c1_i32_156 : BitVec 32 := 1#32
  let v177 : BitVec 32 := Scalar.select v176 c1_i32_156 c16_i32_154
  let v178 : BitVec 32 := Scalar.remsi v175 v177
  let c0_i32_158 : BitVec 32 := 0#32
  let v180 : BitVec 1 := Scalar.cmpi .slt v178 c0_i32_158
  let c0_i32_159 : BitVec 32 := 0#32
  let v181 : BitVec 1 := Scalar.cmpi .slt v177 c0_i32_159
  let v182 : BitVec 1 := Scalar.xori v180 v181
  let c0_i32_157 : BitVec 32 := 0#32
  let v179 : BitVec 1 := Scalar.cmpi .ne v178 c0_i32_157
  let v183 : BitVec 1 := Scalar.andi v182 v179
  let v184 : BitVec 32 := Scalar.addi v178 v177
  let v185 : BitVec 32 := Scalar.select v183 v184 v178
  let c0_i32_160 : BitVec 32 := 0#32
  let v186 : BitVec 1 := Scalar.cmpi .eq v185 c0_i32_160
  let c0_i32_161 : BitVec 32 := 0#32
  let c0_i32_162 : BitVec 32 := 0#32
  let v187 : BitVec 32 := Scalar.select v186 c0_i32_161 c0_i32_162
  let v188 : BitVec 32 := Scalar.addi c0_i32_163 v187
  let c1_i32_164 : BitVec 32 := 1#32
  let v189 : BitVec 1 := Scalar.cmpi .eq v185 c1_i32_164
  let c1_i32_165 : BitVec 32 := 1#32
  let c0_i32_166 : BitVec 32 := 0#32
  let v190 : BitVec 32 := Scalar.select v189 c1_i32_165 c0_i32_166
  let v191 : BitVec 32 := Scalar.addi v188 v190
  let c2_i32_167 : BitVec 32 := 2#32
  let v192 : BitVec 1 := Scalar.cmpi .eq v185 c2_i32_167
  let c5_i32_168 : BitVec 32 := 5#32
  let c0_i32_169 : BitVec 32 := 0#32
  let v193 : BitVec 32 := Scalar.select v192 c5_i32_168 c0_i32_169
  let v194 : BitVec 32 := Scalar.addi v191 v193
  let c3_i32_170 : BitVec 32 := 3#32
  let v195 : BitVec 1 := Scalar.cmpi .eq v185 c3_i32_170
  let c4_i32_171 : BitVec 32 := 4#32
  let c0_i32_172 : BitVec 32 := 0#32
  let v196 : BitVec 32 := Scalar.select v195 c4_i32_171 c0_i32_172
  let v197 : BitVec 32 := Scalar.addi v194 v196
  let c4_i32_173 : BitVec 32 := 4#32
  let v198 : BitVec 1 := Scalar.cmpi .eq v185 c4_i32_173
  let c8_i32_174 : BitVec 32 := 8#32
  let c0_i32_175 : BitVec 32 := 0#32
  let v199 : BitVec 32 := Scalar.select v198 c8_i32_174 c0_i32_175
  let v200 : BitVec 32 := Scalar.addi v197 v199
  let c5_i32_176 : BitVec 32 := 5#32
  let v201 : BitVec 1 := Scalar.cmpi .eq v185 c5_i32_176
  let c9_i32_177 : BitVec 32 := 9#32
  let c0_i32_178 : BitVec 32 := 0#32
  let v202 : BitVec 32 := Scalar.select v201 c9_i32_177 c0_i32_178
  let v203 : BitVec 32 := Scalar.addi v200 v202
  let c6_i32_179 : BitVec 32 := 6#32
  let v204 : BitVec 1 := Scalar.cmpi .eq v185 c6_i32_179
  let c13_i32_180 : BitVec 32 := 13#32
  let c0_i32_181 : BitVec 32 := 0#32
  let v205 : BitVec 32 := Scalar.select v204 c13_i32_180 c0_i32_181
  let v206 : BitVec 32 := Scalar.addi v203 v205
  let c7_i32_182 : BitVec 32 := 7#32
  let v207 : BitVec 1 := Scalar.cmpi .eq v185 c7_i32_182
  let c12_i32_183 : BitVec 32 := 12#32
  let c0_i32_184 : BitVec 32 := 0#32
  let v208 : BitVec 32 := Scalar.select v207 c12_i32_183 c0_i32_184
  let v209 : BitVec 32 := Scalar.addi v206 v208
  let c8_i32_185 : BitVec 32 := 8#32
  let v210 : BitVec 1 := Scalar.cmpi .eq v185 c8_i32_185
  let c15_i32_186 : BitVec 32 := 15#32
  let c0_i32_187 : BitVec 32 := 0#32
  let v211 : BitVec 32 := Scalar.select v210 c15_i32_186 c0_i32_187
  let v212 : BitVec 32 := Scalar.addi v209 v211
  let c9_i32_188 : BitVec 32 := 9#32
  let v213 : BitVec 1 := Scalar.cmpi .eq v185 c9_i32_188
  let c14_i32_189 : BitVec 32 := 14#32
  let c0_i32_190 : BitVec 32 := 0#32
  let v214 : BitVec 32 := Scalar.select v213 c14_i32_189 c0_i32_190
  let v215 : BitVec 32 := Scalar.addi v212 v214
  let c10_i32_191 : BitVec 32 := 10#32
  let v216 : BitVec 1 := Scalar.cmpi .eq v185 c10_i32_191
  let c10_i32_192 : BitVec 32 := 10#32
  let c0_i32_193 : BitVec 32 := 0#32
  let v217 : BitVec 32 := Scalar.select v216 c10_i32_192 c0_i32_193
  let v218 : BitVec 32 := Scalar.addi v215 v217
  let c11_i32_194 : BitVec 32 := 11#32
  let v219 : BitVec 1 := Scalar.cmpi .eq v185 c11_i32_194
  let c11_i32_195 : BitVec 32 := 11#32
  let c0_i32_196 : BitVec 32 := 0#32
  let v220 : BitVec 32 := Scalar.select v219 c11_i32_195 c0_i32_196
  let v221 : BitVec 32 := Scalar.addi v218 v220
  let c12_i32_197 : BitVec 32 := 12#32
  let v222 : BitVec 1 := Scalar.cmpi .eq v185 c12_i32_197
  let c7_i32_198 : BitVec 32 := 7#32
  let c0_i32_199 : BitVec 32 := 0#32
  let v223 : BitVec 32 := Scalar.select v222 c7_i32_198 c0_i32_199
  let v224 : BitVec 32 := Scalar.addi v221 v223
  let c13_i32_200 : BitVec 32 := 13#32
  let v225 : BitVec 1 := Scalar.cmpi .eq v185 c13_i32_200
  let c6_i32_201 : BitVec 32 := 6#32
  let c0_i32_202 : BitVec 32 := 0#32
  let v226 : BitVec 32 := Scalar.select v225 c6_i32_201 c0_i32_202
  let v227 : BitVec 32 := Scalar.addi v224 v226
  let c14_i32_203 : BitVec 32 := 14#32
  let v228 : BitVec 1 := Scalar.cmpi .eq v185 c14_i32_203
  let c2_i32_204 : BitVec 32 := 2#32
  let c0_i32_205 : BitVec 32 := 0#32
  let v229 : BitVec 32 := Scalar.select v228 c2_i32_204 c0_i32_205
  let v230 : BitVec 32 := Scalar.addi v227 v229
  let c15_i32_206 : BitVec 32 := 15#32
  let v231 : BitVec 1 := Scalar.cmpi .eq v185 c15_i32_206
  let c3_i32_207 : BitVec 32 := 3#32
  let c0_i32_208 : BitVec 32 := 0#32
  let v232 : BitVec 32 := Scalar.select v231 c3_i32_207 c0_i32_208
  let v233 : BitVec 32 := Scalar.addi v230 v232
  let c96_i32 : BitVec 32 := 96#32
  let v234 : BitVec 32 := Scalar.muli v233 c96_i32
  let v235 : Index := Scalar.indexCast v234
  let c0 : Index := 0#32
  ![v235.toNat, 0]
def k0_dev3 (d0 : Dev nD) : Nat :=
  let c0_i32_229 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_228 : BitVec 32 := 1#32
  let v261 : BitVec 32 := Scalar.muli v109 c1_i32_228
  let v262 : BitVec 32 := Scalar.addi c0_i32_229 v261
  v262.toNat
def k0_dev4 (d0 : Dev nD) : Nat :=
  let c0_i32_239 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_238 : BitVec 32 := 1#32
  let v271 : BitVec 32 := Scalar.muli v169 c1_i32_238
  let v272 : BitVec 32 := Scalar.addi c0_i32_239 v271
  v272.toNat
def k0_dev5 (d0 : Dev nD) : Nat :=
  let c0_i32_249 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_248 : BitVec 32 := 1#32
  let v281 : BitVec 32 := Scalar.muli v109 c1_i32_248
  let v282 : BitVec 32 := Scalar.addi c0_i32_249 v281
  v282.toNat
def k0_dev6 (d0 : Dev nD) : Nat :=
  let c0_i32_259 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_258 : BitVec 32 := 1#32
  let v291 : BitVec 32 := Scalar.muli v169 c1_i32_258
  let v292 : BitVec 32 := Scalar.addi c0_i32_259 v291
  v292.toNat
def k0_dev7 (d0 : Dev nD) : Nat :=
  let c0_i32_403 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_402 : BitVec 32 := 1#32
  let v453 : BitVec 32 := Scalar.muli v109 c1_i32_402
  let v454 : BitVec 32 := Scalar.addi c0_i32_403 v453
  v454.toNat
def k0_dev8 (d0 : Dev nD) : Nat :=
  let c0_i32_413 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_412 : BitVec 32 := 1#32
  let v463 : BitVec 32 := Scalar.muli v169 c1_i32_412
  let v464 : BitVec 32 := Scalar.addi c0_i32_413 v463
  v464.toNat
def k0_dev9 (d0 : Dev nD) : Nat :=
  let c0_i32_423 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_422 : BitVec 32 := 1#32
  let v473 : BitVec 32 := Scalar.muli v109 c1_i32_422
  let v474 : BitVec 32 := Scalar.addi c0_i32_423 v473
  v474.toNat
def k0_dev10 (d0 : Dev nD) : Nat :=
  let c0_i32_433 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_432 : BitVec 32 := 1#32
  let v483 : BitVec 32 := Scalar.muli v169 c1_i32_432
  let v484 : BitVec 32 := Scalar.addi c0_i32_433 v483
  v484.toNat
def k0_dev11 (d0 : Dev nD) : Nat :=
  let c0_i32_589 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_588 : BitVec 32 := 1#32
  let v648 : BitVec 32 := Scalar.muli v109 c1_i32_588
  let v649 : BitVec 32 := Scalar.addi c0_i32_589 v648
  v649.toNat
def k0_dev12 (d0 : Dev nD) : Nat :=
  let c0_i32_624 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_623 : BitVec 32 := 1#32
  let v681 : BitVec 32 := Scalar.muli v169 c1_i32_623
  let v682 : BitVec 32 := Scalar.addi c0_i32_624 v681
  v682.toNat
def k0_dev13 (d0 : Dev nD) : Nat :=
  let c0_i32_659 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_658 : BitVec 32 := 1#32
  let v714 : BitVec 32 := Scalar.muli v109 c1_i32_658
  let v715 : BitVec 32 := Scalar.addi c0_i32_659 v714
  v715.toNat
def k0_dev14 (d0 : Dev nD) : Nat :=
  let c0_i32_694 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_693 : BitVec 32 := 1#32
  let v747 : BitVec 32 := Scalar.muli v169 c1_i32_693
  let v748 : BitVec 32 := Scalar.addi c0_i32_694 v747
  v748.toNat
def k0_dev15 (d0 : Dev nD) : Nat :=
  let c0_i32_729 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_728 : BitVec 32 := 1#32
  let v780 : BitVec 32 := Scalar.muli v109 c1_i32_728
  let v781 : BitVec 32 := Scalar.addi c0_i32_729 v780
  v781.toNat
def k0_dev16 (d0 : Dev nD) : Nat :=
  let c0_i32_764 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_763 : BitVec 32 := 1#32
  let v813 : BitVec 32 := Scalar.muli v169 c1_i32_763
  let v814 : BitVec 32 := Scalar.addi c0_i32_764 v813
  v814.toNat
def k0_dev17 (d0 : Dev nD) : Nat :=
  let c0_i32_799 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_798 : BitVec 32 := 1#32
  let v846 : BitVec 32 := Scalar.muli v109 c1_i32_798
  let v847 : BitVec 32 := Scalar.addi c0_i32_799 v846
  v847.toNat
def k0_dev18 (d0 : Dev nD) : Nat :=
  let c0_i32_834 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_833 : BitVec 32 := 1#32
  let v879 : BitVec 32 := Scalar.muli v169 c1_i32_833
  let v880 : BitVec 32 := Scalar.addi c0_i32_834 v879
  v880.toNat
def k0_off2 (d0 : Dev nD) (c1_i32_840 : BitVec 32) : Fin 2 → Nat :=
  let c0_i32_850 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c6_i32_839 : BitVec 32 := 6#32
  let v889 : BitVec 32 := Scalar.addi v50 c6_i32_839
  let v890 : BitVec 32 := Scalar.subi v889 c1_i32_840
  let c16_i32_841 : BitVec 32 := 16#32
  let c0_i32_842 : BitVec 32 := 0#32
  let v891 : BitVec 1 := Scalar.cmpi .eq c16_i32_841 c0_i32_842
  let c1_i32_843 : BitVec 32 := 1#32
  let v892 : BitVec 32 := Scalar.select v891 c1_i32_843 c16_i32_841
  let v893 : BitVec 32 := Scalar.remsi v890 v892
  let c0_i32_845 : BitVec 32 := 0#32
  let v895 : BitVec 1 := Scalar.cmpi .slt v893 c0_i32_845
  let c0_i32_846 : BitVec 32 := 0#32
  let v896 : BitVec 1 := Scalar.cmpi .slt v892 c0_i32_846
  let v897 : BitVec 1 := Scalar.xori v895 v896
  let c0_i32_844 : BitVec 32 := 0#32
  let v894 : BitVec 1 := Scalar.cmpi .ne v893 c0_i32_844
  let v898 : BitVec 1 := Scalar.andi v897 v894
  let v899 : BitVec 32 := Scalar.addi v893 v892
  let v900 : BitVec 32 := Scalar.select v898 v899 v893
  let c0_i32_847 : BitVec 32 := 0#32
  let v901 : BitVec 1 := Scalar.cmpi .eq v900 c0_i32_847
  let c0_i32_848 : BitVec 32 := 0#32
  let c0_i32_849 : BitVec 32 := 0#32
  let v902 : BitVec 32 := Scalar.select v901 c0_i32_848 c0_i32_849
  let v903 : BitVec 32 := Scalar.addi c0_i32_850 v902
  let c1_i32_851 : BitVec 32 := 1#32
  let v904 : BitVec 1 := Scalar.cmpi .eq v900 c1_i32_851
  let c1_i32_852 : BitVec 32 := 1#32
  let c0_i32_853 : BitVec 32 := 0#32
  let v905 : BitVec 32 := Scalar.select v904 c1_i32_852 c0_i32_853
  let v906 : BitVec 32 := Scalar.addi v903 v905
  let c2_i32_854 : BitVec 32 := 2#32
  let v907 : BitVec 1 := Scalar.cmpi .eq v900 c2_i32_854
  let c5_i32_855 : BitVec 32 := 5#32
  let c0_i32_856 : BitVec 32 := 0#32
  let v908 : BitVec 32 := Scalar.select v907 c5_i32_855 c0_i32_856
  let v909 : BitVec 32 := Scalar.addi v906 v908
  let c3_i32_857 : BitVec 32 := 3#32
  let v910 : BitVec 1 := Scalar.cmpi .eq v900 c3_i32_857
  let c4_i32_858 : BitVec 32 := 4#32
  let c0_i32_859 : BitVec 32 := 0#32
  let v911 : BitVec 32 := Scalar.select v910 c4_i32_858 c0_i32_859
  let v912 : BitVec 32 := Scalar.addi v909 v911
  let c4_i32_860 : BitVec 32 := 4#32
  let v913 : BitVec 1 := Scalar.cmpi .eq v900 c4_i32_860
  let c8_i32_861 : BitVec 32 := 8#32
  let c0_i32_862 : BitVec 32 := 0#32
  let v914 : BitVec 32 := Scalar.select v913 c8_i32_861 c0_i32_862
  let v915 : BitVec 32 := Scalar.addi v912 v914
  let c5_i32_863 : BitVec 32 := 5#32
  let v916 : BitVec 1 := Scalar.cmpi .eq v900 c5_i32_863
  let c9_i32_864 : BitVec 32 := 9#32
  let c0_i32_865 : BitVec 32 := 0#32
  let v917 : BitVec 32 := Scalar.select v916 c9_i32_864 c0_i32_865
  let v918 : BitVec 32 := Scalar.addi v915 v917
  let c6_i32_866 : BitVec 32 := 6#32
  let v919 : BitVec 1 := Scalar.cmpi .eq v900 c6_i32_866
  let c13_i32_867 : BitVec 32 := 13#32
  let c0_i32_868 : BitVec 32 := 0#32
  let v920 : BitVec 32 := Scalar.select v919 c13_i32_867 c0_i32_868
  let v921 : BitVec 32 := Scalar.addi v918 v920
  let c7_i32_869 : BitVec 32 := 7#32
  let v922 : BitVec 1 := Scalar.cmpi .eq v900 c7_i32_869
  let c12_i32_870 : BitVec 32 := 12#32
  let c0_i32_871 : BitVec 32 := 0#32
  let v923 : BitVec 32 := Scalar.select v922 c12_i32_870 c0_i32_871
  let v924 : BitVec 32 := Scalar.addi v921 v923
  let c8_i32_872 : BitVec 32 := 8#32
  let v925 : BitVec 1 := Scalar.cmpi .eq v900 c8_i32_872
  let c15_i32_873 : BitVec 32 := 15#32
  let c0_i32_874 : BitVec 32 := 0#32
  let v926 : BitVec 32 := Scalar.select v925 c15_i32_873 c0_i32_874
  let v927 : BitVec 32 := Scalar.addi v924 v926
  let c9_i32_875 : BitVec 32 := 9#32
  let v928 : BitVec 1 := Scalar.cmpi .eq v900 c9_i32_875
  let c14_i32_876 : BitVec 32 := 14#32
  let c0_i32_877 : BitVec 32 := 0#32
  let v929 : BitVec 32 := Scalar.select v928 c14_i32_876 c0_i32_877
  let v930 : BitVec 32 := Scalar.addi v927 v929
  let c10_i32_878 : BitVec 32 := 10#32
  let v931 : BitVec 1 := Scalar.cmpi .eq v900 c10_i32_878
  let c10_i32_879 : BitVec 32 := 10#32
  let c0_i32_880 : BitVec 32 := 0#32
  let v932 : BitVec 32 := Scalar.select v931 c10_i32_879 c0_i32_880
  let v933 : BitVec 32 := Scalar.addi v930 v932
  let c11_i32_881 : BitVec 32 := 11#32
  let v934 : BitVec 1 := Scalar.cmpi .eq v900 c11_i32_881
  let c11_i32_882 : BitVec 32 := 11#32
  let c0_i32_883 : BitVec 32 := 0#32
  let v935 : BitVec 32 := Scalar.select v934 c11_i32_882 c0_i32_883
  let v936 : BitVec 32 := Scalar.addi v933 v935
  let c12_i32_884 : BitVec 32 := 12#32
  let v937 : BitVec 1 := Scalar.cmpi .eq v900 c12_i32_884
  let c7_i32_885 : BitVec 32 := 7#32
  let c0_i32_886 : BitVec 32 := 0#32
  let v938 : BitVec 32 := Scalar.select v937 c7_i32_885 c0_i32_886
  let v939 : BitVec 32 := Scalar.addi v936 v938
  let c13_i32_887 : BitVec 32 := 13#32
  let v940 : BitVec 1 := Scalar.cmpi .eq v900 c13_i32_887
  let c6_i32_888 : BitVec 32 := 6#32
  let c0_i32_889 : BitVec 32 := 0#32
  let v941 : BitVec 32 := Scalar.select v940 c6_i32_888 c0_i32_889
  let v942 : BitVec 32 := Scalar.addi v939 v941
  let c14_i32_890 : BitVec 32 := 14#32
  let v943 : BitVec 1 := Scalar.cmpi .eq v900 c14_i32_890
  let c2_i32_891 : BitVec 32 := 2#32
  let c0_i32_892 : BitVec 32 := 0#32
  let v944 : BitVec 32 := Scalar.select v943 c2_i32_891 c0_i32_892
  let v945 : BitVec 32 := Scalar.addi v942 v944
  let c15_i32_893 : BitVec 32 := 15#32
  let v946 : BitVec 1 := Scalar.cmpi .eq v900 c15_i32_893
  let c3_i32_894 : BitVec 32 := 3#32
  let c0_i32_895 : BitVec 32 := 0#32
  let v947 : BitVec 32 := Scalar.select v946 c3_i32_894 c0_i32_895
  let v948 : BitVec 32 := Scalar.addi v945 v947
  let c96_i32_896 : BitVec 32 := 96#32
  let v949 : BitVec 32 := Scalar.muli v948 c96_i32_896
  let v950 : Index := Scalar.indexCast v949
  let c0_897 : Index := 0#32
  ![v950.toNat, 0]
def k0_off3 (d0 : Dev nD) (c0_i32_902 : BitVec 32) : Fin 2 → Nat :=
  let c0_i32_913 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c10_i32_901 : BitVec 32 := 10#32
  let v956 : BitVec 32 := Scalar.addi v50 c10_i32_901
  let v957 : BitVec 32 := Scalar.addi v956 c0_i32_902
  let c1_i32_903 : BitVec 32 := 1#32
  let v958 : BitVec 32 := Scalar.addi v957 c1_i32_903
  let c16_i32_904 : BitVec 32 := 16#32
  let c0_i32_905 : BitVec 32 := 0#32
  let v959 : BitVec 1 := Scalar.cmpi .eq c16_i32_904 c0_i32_905
  let c1_i32_906 : BitVec 32 := 1#32
  let v960 : BitVec 32 := Scalar.select v959 c1_i32_906 c16_i32_904
  let v961 : BitVec 32 := Scalar.remsi v958 v960
  let c0_i32_908 : BitVec 32 := 0#32
  let v963 : BitVec 1 := Scalar.cmpi .slt v961 c0_i32_908
  let c0_i32_909 : BitVec 32 := 0#32
  let v964 : BitVec 1 := Scalar.cmpi .slt v960 c0_i32_909
  let v965 : BitVec 1 := Scalar.xori v963 v964
  let c0_i32_907 : BitVec 32 := 0#32
  let v962 : BitVec 1 := Scalar.cmpi .ne v961 c0_i32_907
  let v966 : BitVec 1 := Scalar.andi v965 v962
  let v967 : BitVec 32 := Scalar.addi v961 v960
  let v968 : BitVec 32 := Scalar.select v966 v967 v961
  let c0_i32_910 : BitVec 32 := 0#32
  let v969 : BitVec 1 := Scalar.cmpi .eq v968 c0_i32_910
  let c0_i32_911 : BitVec 32 := 0#32
  let c0_i32_912 : BitVec 32 := 0#32
  let v970 : BitVec 32 := Scalar.select v969 c0_i32_911 c0_i32_912
  let v971 : BitVec 32 := Scalar.addi c0_i32_913 v970
  let c1_i32_914 : BitVec 32 := 1#32
  let v972 : BitVec 1 := Scalar.cmpi .eq v968 c1_i32_914
  let c1_i32_915 : BitVec 32 := 1#32
  let c0_i32_916 : BitVec 32 := 0#32
  let v973 : BitVec 32 := Scalar.select v972 c1_i32_915 c0_i32_916
  let v974 : BitVec 32 := Scalar.addi v971 v973
  let c2_i32_917 : BitVec 32 := 2#32
  let v975 : BitVec 1 := Scalar.cmpi .eq v968 c2_i32_917
  let c5_i32_918 : BitVec 32 := 5#32
  let c0_i32_919 : BitVec 32 := 0#32
  let v976 : BitVec 32 := Scalar.select v975 c5_i32_918 c0_i32_919
  let v977 : BitVec 32 := Scalar.addi v974 v976
  let c3_i32_920 : BitVec 32 := 3#32
  let v978 : BitVec 1 := Scalar.cmpi .eq v968 c3_i32_920
  let c4_i32_921 : BitVec 32 := 4#32
  let c0_i32_922 : BitVec 32 := 0#32
  let v979 : BitVec 32 := Scalar.select v978 c4_i32_921 c0_i32_922
  let v980 : BitVec 32 := Scalar.addi v977 v979
  let c4_i32_923 : BitVec 32 := 4#32
  let v981 : BitVec 1 := Scalar.cmpi .eq v968 c4_i32_923
  let c8_i32_924 : BitVec 32 := 8#32
  let c0_i32_925 : BitVec 32 := 0#32
  let v982 : BitVec 32 := Scalar.select v981 c8_i32_924 c0_i32_925
  let v983 : BitVec 32 := Scalar.addi v980 v982
  let c5_i32_926 : BitVec 32 := 5#32
  let v984 : BitVec 1 := Scalar.cmpi .eq v968 c5_i32_926
  let c9_i32_927 : BitVec 32 := 9#32
  let c0_i32_928 : BitVec 32 := 0#32
  let v985 : BitVec 32 := Scalar.select v984 c9_i32_927 c0_i32_928
  let v986 : BitVec 32 := Scalar.addi v983 v985
  let c6_i32_929 : BitVec 32 := 6#32
  let v987 : BitVec 1 := Scalar.cmpi .eq v968 c6_i32_929
  let c13_i32_930 : BitVec 32 := 13#32
  let c0_i32_931 : BitVec 32 := 0#32
  let v988 : BitVec 32 := Scalar.select v987 c13_i32_930 c0_i32_931
  let v989 : BitVec 32 := Scalar.addi v986 v988
  let c7_i32_932 : BitVec 32 := 7#32
  let v990 : BitVec 1 := Scalar.cmpi .eq v968 c7_i32_932
  let c12_i32_933 : BitVec 32 := 12#32
  let c0_i32_934 : BitVec 32 := 0#32
  let v991 : BitVec 32 := Scalar.select v990 c12_i32_933 c0_i32_934
  let v992 : BitVec 32 := Scalar.addi v989 v991
  let c8_i32_935 : BitVec 32 := 8#32
  let v993 : BitVec 1 := Scalar.cmpi .eq v968 c8_i32_935
  let c15_i32_936 : BitVec 32 := 15#32
  let c0_i32_937 : BitVec 32 := 0#32
  let v994 : BitVec 32 := Scalar.select v993 c15_i32_936 c0_i32_937
  let v995 : BitVec 32 := Scalar.addi v992 v994
  let c9_i32_938 : BitVec 32 := 9#32
  let v996 : BitVec 1 := Scalar.cmpi .eq v968 c9_i32_938
  let c14_i32_939 : BitVec 32 := 14#32
  let c0_i32_940 : BitVec 32 := 0#32
  let v997 : BitVec 32 := Scalar.select v996 c14_i32_939 c0_i32_940
  let v998 : BitVec 32 := Scalar.addi v995 v997
  let c10_i32_941 : BitVec 32 := 10#32
  let v999 : BitVec 1 := Scalar.cmpi .eq v968 c10_i32_941
  let c10_i32_942 : BitVec 32 := 10#32
  let c0_i32_943 : BitVec 32 := 0#32
  let v1000 : BitVec 32 := Scalar.select v999 c10_i32_942 c0_i32_943
  let v1001 : BitVec 32 := Scalar.addi v998 v1000
  let c11_i32_944 : BitVec 32 := 11#32
  let v1002 : BitVec 1 := Scalar.cmpi .eq v968 c11_i32_944
  let c11_i32_945 : BitVec 32 := 11#32
  let c0_i32_946 : BitVec 32 := 0#32
  let v1003 : BitVec 32 := Scalar.select v1002 c11_i32_945 c0_i32_946
  let v1004 : BitVec 32 := Scalar.addi v1001 v1003
  let c12_i32_947 : BitVec 32 := 12#32
  let v1005 : BitVec 1 := Scalar.cmpi .eq v968 c12_i32_947
  let c7_i32_948 : BitVec 32 := 7#32
  let c0_i32_949 : BitVec 32 := 0#32
  let v1006 : BitVec 32 := Scalar.select v1005 c7_i32_948 c0_i32_949
  let v1007 : BitVec 32 := Scalar.addi v1004 v1006
  let c13_i32_950 : BitVec 32 := 13#32
  let v1008 : BitVec 1 := Scalar.cmpi .eq v968 c13_i32_950
  let c6_i32_951 : BitVec 32 := 6#32
  let c0_i32_952 : BitVec 32 := 0#32
  let v1009 : BitVec 32 := Scalar.select v1008 c6_i32_951 c0_i32_952
  let v1010 : BitVec 32 := Scalar.addi v1007 v1009
  let c14_i32_953 : BitVec 32 := 14#32
  let v1011 : BitVec 1 := Scalar.cmpi .eq v968 c14_i32_953
  let c2_i32_954 : BitVec 32 := 2#32
  let c0_i32_955 : BitVec 32 := 0#32
  let v1012 : BitVec 32 := Scalar.select v1011 c2_i32_954 c0_i32_955
  let v1013 : BitVec 32 := Scalar.addi v1010 v1012
  let c15_i32_956 : BitVec 32 := 15#32
  let v1014 : BitVec 1 := Scalar.cmpi .eq v968 c15_i32_956
  let c3_i32_957 : BitVec 32 := 3#32
  let c0_i32_958 : BitVec 32 := 0#32
  let v1015 : BitVec 32 := Scalar.select v1014 c3_i32_957 c0_i32_958
  let v1016 : BitVec 32 := Scalar.addi v1013 v1015
  let c96_i32_959 : BitVec 32 := 96#32
  let v1017 : BitVec 32 := Scalar.muli v1016 c96_i32_959
  let v1018 : Index := Scalar.indexCast v1017
  let c0_960 : Index := 0#32
  ![v1018.toNat, 0]
def k0_dev19 (d0 : Dev nD) : Nat :=
  let c0_i32_993 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_992 : BitVec 32 := 1#32
  let v1047 : BitVec 32 := Scalar.muli v109 c1_i32_992
  let v1048 : BitVec 32 := Scalar.addi c0_i32_993 v1047
  v1048.toNat
def k0_dev20 (d0 : Dev nD) : Nat :=
  let c0_i32_1028 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_1027 : BitVec 32 := 1#32
  let v1080 : BitVec 32 := Scalar.muli v169 c1_i32_1027
  let v1081 : BitVec 32 := Scalar.addi c0_i32_1028 v1080
  v1081.toNat
def k0_dev21 (d0 : Dev nD) : Nat :=
  let c0_i32_1063 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_1062 : BitVec 32 := 1#32
  let v1113 : BitVec 32 := Scalar.muli v109 c1_i32_1062
  let v1114 : BitVec 32 := Scalar.addi c0_i32_1063 v1113
  v1114.toNat
def k0_dev22 (d0 : Dev nD) : Nat :=
  let c0_i32_1098 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_1097 : BitVec 32 := 1#32
  let v1146 : BitVec 32 := Scalar.muli v169 c1_i32_1097
  let v1147 : BitVec 32 := Scalar.addi c0_i32_1098 v1146
  v1147.toNat
def k0_dev23 (d0 : Dev nD) : Nat :=
  let c0_i32_1133 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_1132 : BitVec 32 := 1#32
  let v1179 : BitVec 32 := Scalar.muli v109 c1_i32_1132
  let v1180 : BitVec 32 := Scalar.addi c0_i32_1133 v1179
  v1180.toNat
def k0_dev24 (d0 : Dev nD) : Nat :=
  let c0_i32_1168 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_1167 : BitVec 32 := 1#32
  let v1212 : BitVec 32 := Scalar.muli v169 c1_i32_1167
  let v1213 : BitVec 32 := Scalar.addi c0_i32_1168 v1212
  v1213.toNat
def k0_dev25 (d0 : Dev nD) : Nat :=
  let c0_i32_1203 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_1202 : BitVec 32 := 1#32
  let v1245 : BitVec 32 := Scalar.muli v109 c1_i32_1202
  let v1246 : BitVec 32 := Scalar.addi c0_i32_1203 v1245
  v1246.toNat
def k0_dev26 (d0 : Dev nD) : Nat :=
  let c0_i32_1238 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_1237 : BitVec 32 := 1#32
  let v1278 : BitVec 32 := Scalar.muli v169 c1_i32_1237
  let v1279 : BitVec 32 := Scalar.addi c0_i32_1238 v1278
  v1279.toNat
def k0_dev27 (d0 : Dev nD) : Nat :=
  let c0_i32_1397 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_1396 : BitVec 32 := 1#32
  let v1446 : BitVec 32 := Scalar.muli v109 c1_i32_1396
  let v1447 : BitVec 32 := Scalar.addi c0_i32_1397 v1446
  v1447.toNat
def k0_dev28 (d0 : Dev nD) : Nat :=
  let c0_i32_1432 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_1431 : BitVec 32 := 1#32
  let v1479 : BitVec 32 := Scalar.muli v169 c1_i32_1431
  let v1480 : BitVec 32 := Scalar.addi c0_i32_1432 v1479
  v1480.toNat
def k0_dev29 (d0 : Dev nD) : Nat :=
  let c0_i32_1467 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_1466 : BitVec 32 := 1#32
  let v1512 : BitVec 32 := Scalar.muli v109 c1_i32_1466
  let v1513 : BitVec 32 := Scalar.addi c0_i32_1467 v1512
  v1513.toNat
def k0_dev30 (d0 : Dev nD) : Nat :=
  let c0_i32_1502 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_1501 : BitVec 32 := 1#32
  let v1545 : BitVec 32 := Scalar.muli v169 c1_i32_1501
  let v1546 : BitVec 32 := Scalar.addi c0_i32_1502 v1545
  v1546.toNat
def k0_dev31 (d0 : Dev nD) : Nat :=
  let c0_i32_1537 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_1536 : BitVec 32 := 1#32
  let v1578 : BitVec 32 := Scalar.muli v109 c1_i32_1536
  let v1579 : BitVec 32 := Scalar.addi c0_i32_1537 v1578
  v1579.toNat
def k0_dev32 (d0 : Dev nD) : Nat :=
  let c0_i32_1572 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_1571 : BitVec 32 := 1#32
  let v1611 : BitVec 32 := Scalar.muli v169 c1_i32_1571
  let v1612 : BitVec 32 := Scalar.addi c0_i32_1572 v1611
  v1612.toNat
def k0_dev33 (d0 : Dev nD) : Nat :=
  let c0_i32_1607 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_1606 : BitVec 32 := 1#32
  let v1644 : BitVec 32 := Scalar.muli v109 c1_i32_1606
  let v1645 : BitVec 32 := Scalar.addi c0_i32_1607 v1644
  v1645.toNat
def k0_dev34 (d0 : Dev nD) : Nat :=
  let c0_i32_1642 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_1641 : BitVec 32 := 1#32
  let v1677 : BitVec 32 := Scalar.muli v169 c1_i32_1641
  let v1678 : BitVec 32 := Scalar.addi c0_i32_1642 v1677
  v1678.toNat
def k0_dev35 (d0 : Dev nD) : Nat :=
  let c0_i32_1801 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_1800 : BitVec 32 := 1#32
  let v1845 : BitVec 32 := Scalar.muli v109 c1_i32_1800
  let v1846 : BitVec 32 := Scalar.addi c0_i32_1801 v1845
  v1846.toNat
def k0_dev36 (d0 : Dev nD) : Nat :=
  let c0_i32_1836 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_1835 : BitVec 32 := 1#32
  let v1878 : BitVec 32 := Scalar.muli v169 c1_i32_1835
  let v1879 : BitVec 32 := Scalar.addi c0_i32_1836 v1878
  v1879.toNat
def k0_dev37 (d0 : Dev nD) : Nat :=
  let c0_i32_1871 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_1870 : BitVec 32 := 1#32
  let v1911 : BitVec 32 := Scalar.muli v109 c1_i32_1870
  let v1912 : BitVec 32 := Scalar.addi c0_i32_1871 v1911
  v1912.toNat
def k0_dev38 (d0 : Dev nD) : Nat :=
  let c0_i32_1906 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_1905 : BitVec 32 := 1#32
  let v1944 : BitVec 32 := Scalar.muli v169 c1_i32_1905
  let v1945 : BitVec 32 := Scalar.addi c0_i32_1906 v1944
  v1945.toNat
def k0_dev39 (d0 : Dev nD) : Nat :=
  let c0_i32_1941 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_1940 : BitVec 32 := 1#32
  let v1977 : BitVec 32 := Scalar.muli v109 c1_i32_1940
  let v1978 : BitVec 32 := Scalar.addi c0_i32_1941 v1977
  v1978.toNat
def k0_dev40 (d0 : Dev nD) : Nat :=
  let c0_i32_1976 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_1975 : BitVec 32 := 1#32
  let v2010 : BitVec 32 := Scalar.muli v169 c1_i32_1975
  let v2011 : BitVec 32 := Scalar.addi c0_i32_1976 v2010
  v2011.toNat
def k0_dev41 (d0 : Dev nD) : Nat :=
  let c0_i32_2011 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_2010 : BitVec 32 := 1#32
  let v2043 : BitVec 32 := Scalar.muli v109 c1_i32_2010
  let v2044 : BitVec 32 := Scalar.addi c0_i32_2011 v2043
  v2044.toNat
def k0_dev42 (d0 : Dev nD) : Nat :=
  let c0_i32_2046 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_2045 : BitVec 32 := 1#32
  let v2076 : BitVec 32 := Scalar.muli v169 c1_i32_2045
  let v2077 : BitVec 32 := Scalar.addi c0_i32_2046 v2076
  v2077.toNat
def k0_dev43 (d0 : Dev nD) : Nat :=
  let c0_i32_2205 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_2204 : BitVec 32 := 1#32
  let v2244 : BitVec 32 := Scalar.muli v109 c1_i32_2204
  let v2245 : BitVec 32 := Scalar.addi c0_i32_2205 v2244
  v2245.toNat
def k0_dev44 (d0 : Dev nD) : Nat :=
  let c0_i32_2240 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_2239 : BitVec 32 := 1#32
  let v2277 : BitVec 32 := Scalar.muli v169 c1_i32_2239
  let v2278 : BitVec 32 := Scalar.addi c0_i32_2240 v2277
  v2278.toNat
def k0_dev45 (d0 : Dev nD) : Nat :=
  let c0_i32_2275 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_2274 : BitVec 32 := 1#32
  let v2310 : BitVec 32 := Scalar.muli v109 c1_i32_2274
  let v2311 : BitVec 32 := Scalar.addi c0_i32_2275 v2310
  v2311.toNat
def k0_dev46 (d0 : Dev nD) : Nat :=
  let c0_i32_2310 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_2309 : BitVec 32 := 1#32
  let v2343 : BitVec 32 := Scalar.muli v169 c1_i32_2309
  let v2344 : BitVec 32 := Scalar.addi c0_i32_2310 v2343
  v2344.toNat
def k0_dev47 (d0 : Dev nD) : Nat :=
  let c0_i32_2345 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_2344 : BitVec 32 := 1#32
  let v2376 : BitVec 32 := Scalar.muli v109 c1_i32_2344
  let v2377 : BitVec 32 := Scalar.addi c0_i32_2345 v2376
  v2377.toNat
def k0_dev48 (d0 : Dev nD) : Nat :=
  let c0_i32_2380 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_2379 : BitVec 32 := 1#32
  let v2409 : BitVec 32 := Scalar.muli v169 c1_i32_2379
  let v2410 : BitVec 32 := Scalar.addi c0_i32_2380 v2409
  v2410.toNat
def k0_dev49 (d0 : Dev nD) : Nat :=
  let c0_i32_2415 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_2414 : BitVec 32 := 1#32
  let v2442 : BitVec 32 := Scalar.muli v109 c1_i32_2414
  let v2443 : BitVec 32 := Scalar.addi c0_i32_2415 v2442
  v2443.toNat
def k0_dev50 (d0 : Dev nD) : Nat :=
  let c0_i32_2450 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_2449 : BitVec 32 := 1#32
  let v2475 : BitVec 32 := Scalar.muli v169 c1_i32_2449
  let v2476 : BitVec 32 := Scalar.addi c0_i32_2450 v2475
  v2476.toNat
def k0_dev51 (d0 : Dev nD) : Nat :=
  let c0_i32_2609 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_2608 : BitVec 32 := 1#32
  let v2643 : BitVec 32 := Scalar.muli v109 c1_i32_2608
  let v2644 : BitVec 32 := Scalar.addi c0_i32_2609 v2643
  v2644.toNat
def k0_dev52 (d0 : Dev nD) : Nat :=
  let c0_i32_2644 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_2643 : BitVec 32 := 1#32
  let v2676 : BitVec 32 := Scalar.muli v169 c1_i32_2643
  let v2677 : BitVec 32 := Scalar.addi c0_i32_2644 v2676
  v2677.toNat
def k0_dev53 (d0 : Dev nD) : Nat :=
  let c0_i32_2679 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_2678 : BitVec 32 := 1#32
  let v2709 : BitVec 32 := Scalar.muli v109 c1_i32_2678
  let v2710 : BitVec 32 := Scalar.addi c0_i32_2679 v2709
  v2710.toNat
def k0_dev54 (d0 : Dev nD) : Nat :=
  let c0_i32_2714 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_2713 : BitVec 32 := 1#32
  let v2742 : BitVec 32 := Scalar.muli v169 c1_i32_2713
  let v2743 : BitVec 32 := Scalar.addi c0_i32_2714 v2742
  v2743.toNat
def k0_dev55 (d0 : Dev nD) : Nat :=
  let c0_i32_2749 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_2748 : BitVec 32 := 1#32
  let v2775 : BitVec 32 := Scalar.muli v109 c1_i32_2748
  let v2776 : BitVec 32 := Scalar.addi c0_i32_2749 v2775
  v2776.toNat
def k0_dev56 (d0 : Dev nD) : Nat :=
  let c0_i32_2784 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_2783 : BitVec 32 := 1#32
  let v2808 : BitVec 32 := Scalar.muli v169 c1_i32_2783
  let v2809 : BitVec 32 := Scalar.addi c0_i32_2784 v2808
  v2809.toNat
def k0_dev57 (d0 : Dev nD) : Nat :=
  let c0_i32_2819 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_2818 : BitVec 32 := 1#32
  let v2841 : BitVec 32 := Scalar.muli v109 c1_i32_2818
  let v2842 : BitVec 32 := Scalar.addi c0_i32_2819 v2841
  v2842.toNat
def k0_dev58 (d0 : Dev nD) : Nat :=
  let c0_i32_2854 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_2853 : BitVec 32 := 1#32
  let v2874 : BitVec 32 := Scalar.muli v169 c1_i32_2853
  let v2875 : BitVec 32 := Scalar.addi c0_i32_2854 v2874
  v2875.toNat
def k0_dev59 (d0 : Dev nD) : Nat :=
  let c0_i32_2950 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_2949 : BitVec 32 := 1#32
  let v2974 : BitVec 32 := Scalar.muli v109 c1_i32_2949
  let v2975 : BitVec 32 := Scalar.addi c0_i32_2950 v2974
  v2975.toNat
def k0_dev60 (d0 : Dev nD) : Nat :=
  let c0_i32_2985 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_2984 : BitVec 32 := 1#32
  let v3007 : BitVec 32 := Scalar.muli v169 c1_i32_2984
  let v3008 : BitVec 32 := Scalar.addi c0_i32_2985 v3007
  v3008.toNat
def k0_dev61 (d0 : Dev nD) : Nat :=
  let c0_i32_3020 : BitVec 32 := 0#32
  let c0_i32_44 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c1_i32_34 : BitVec 32 := 1#32
  let v51 : BitVec 32 := Scalar.addi v50 c1_i32_34
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let c0_i32_42 : BitVec 32 := 0#32
  let c0_i32_43 : BitVec 32 := 0#32
  let v63 : BitVec 32 := Scalar.select v62 c0_i32_42 c0_i32_43
  let v64 : BitVec 32 := Scalar.addi c0_i32_44 v63
  let c1_i32_45 : BitVec 32 := 1#32
  let v65 : BitVec 1 := Scalar.cmpi .eq v61 c1_i32_45
  let c1_i32_46 : BitVec 32 := 1#32
  let c0_i32_47 : BitVec 32 := 0#32
  let v66 : BitVec 32 := Scalar.select v65 c1_i32_46 c0_i32_47
  let v67 : BitVec 32 := Scalar.addi v64 v66
  let c2_i32_48 : BitVec 32 := 2#32
  let v68 : BitVec 1 := Scalar.cmpi .eq v61 c2_i32_48
  let c5_i32_49 : BitVec 32 := 5#32
  let c0_i32_50 : BitVec 32 := 0#32
  let v69 : BitVec 32 := Scalar.select v68 c5_i32_49 c0_i32_50
  let v70 : BitVec 32 := Scalar.addi v67 v69
  let c3_i32_51 : BitVec 32 := 3#32
  let v71 : BitVec 1 := Scalar.cmpi .eq v61 c3_i32_51
  let c4_i32_52 : BitVec 32 := 4#32
  let c0_i32_53 : BitVec 32 := 0#32
  let v72 : BitVec 32 := Scalar.select v71 c4_i32_52 c0_i32_53
  let v73 : BitVec 32 := Scalar.addi v70 v72
  let c4_i32_54 : BitVec 32 := 4#32
  let v74 : BitVec 1 := Scalar.cmpi .eq v61 c4_i32_54
  let c8_i32_55 : BitVec 32 := 8#32
  let c0_i32_56 : BitVec 32 := 0#32
  let v75 : BitVec 32 := Scalar.select v74 c8_i32_55 c0_i32_56
  let v76 : BitVec 32 := Scalar.addi v73 v75
  let c5_i32_57 : BitVec 32 := 5#32
  let v77 : BitVec 1 := Scalar.cmpi .eq v61 c5_i32_57
  let c9_i32_58 : BitVec 32 := 9#32
  let c0_i32_59 : BitVec 32 := 0#32
  let v78 : BitVec 32 := Scalar.select v77 c9_i32_58 c0_i32_59
  let v79 : BitVec 32 := Scalar.addi v76 v78
  let c6_i32_60 : BitVec 32 := 6#32
  let v80 : BitVec 1 := Scalar.cmpi .eq v61 c6_i32_60
  let c13_i32_61 : BitVec 32 := 13#32
  let c0_i32_62 : BitVec 32 := 0#32
  let v81 : BitVec 32 := Scalar.select v80 c13_i32_61 c0_i32_62
  let v82 : BitVec 32 := Scalar.addi v79 v81
  let c7_i32_63 : BitVec 32 := 7#32
  let v83 : BitVec 1 := Scalar.cmpi .eq v61 c7_i32_63
  let c12_i32_64 : BitVec 32 := 12#32
  let c0_i32_65 : BitVec 32 := 0#32
  let v84 : BitVec 32 := Scalar.select v83 c12_i32_64 c0_i32_65
  let v85 : BitVec 32 := Scalar.addi v82 v84
  let c8_i32_66 : BitVec 32 := 8#32
  let v86 : BitVec 1 := Scalar.cmpi .eq v61 c8_i32_66
  let c15_i32_67 : BitVec 32 := 15#32
  let c0_i32_68 : BitVec 32 := 0#32
  let v87 : BitVec 32 := Scalar.select v86 c15_i32_67 c0_i32_68
  let v88 : BitVec 32 := Scalar.addi v85 v87
  let c9_i32_69 : BitVec 32 := 9#32
  let v89 : BitVec 1 := Scalar.cmpi .eq v61 c9_i32_69
  let c14_i32_70 : BitVec 32 := 14#32
  let c0_i32_71 : BitVec 32 := 0#32
  let v90 : BitVec 32 := Scalar.select v89 c14_i32_70 c0_i32_71
  let v91 : BitVec 32 := Scalar.addi v88 v90
  let c10_i32_72 : BitVec 32 := 10#32
  let v92 : BitVec 1 := Scalar.cmpi .eq v61 c10_i32_72
  let c10_i32_73 : BitVec 32 := 10#32
  let c0_i32_74 : BitVec 32 := 0#32
  let v93 : BitVec 32 := Scalar.select v92 c10_i32_73 c0_i32_74
  let v94 : BitVec 32 := Scalar.addi v91 v93
  let c11_i32_75 : BitVec 32 := 11#32
  let v95 : BitVec 1 := Scalar.cmpi .eq v61 c11_i32_75
  let c11_i32_76 : BitVec 32 := 11#32
  let c0_i32_77 : BitVec 32 := 0#32
  let v96 : BitVec 32 := Scalar.select v95 c11_i32_76 c0_i32_77
  let v97 : BitVec 32 := Scalar.addi v94 v96
  let c12_i32_78 : BitVec 32 := 12#32
  let v98 : BitVec 1 := Scalar.cmpi .eq v61 c12_i32_78
  let c7_i32_79 : BitVec 32 := 7#32
  let c0_i32_80 : BitVec 32 := 0#32
  let v99 : BitVec 32 := Scalar.select v98 c7_i32_79 c0_i32_80
  let v100 : BitVec 32 := Scalar.addi v97 v99
  let c13_i32_81 : BitVec 32 := 13#32
  let v101 : BitVec 1 := Scalar.cmpi .eq v61 c13_i32_81
  let c6_i32_82 : BitVec 32 := 6#32
  let c0_i32_83 : BitVec 32 := 0#32
  let v102 : BitVec 32 := Scalar.select v101 c6_i32_82 c0_i32_83
  let v103 : BitVec 32 := Scalar.addi v100 v102
  let c14_i32_84 : BitVec 32 := 14#32
  let v104 : BitVec 1 := Scalar.cmpi .eq v61 c14_i32_84
  let c2_i32_85 : BitVec 32 := 2#32
  let c0_i32_86 : BitVec 32 := 0#32
  let v105 : BitVec 32 := Scalar.select v104 c2_i32_85 c0_i32_86
  let v106 : BitVec 32 := Scalar.addi v103 v105
  let c15_i32_87 : BitVec 32 := 15#32
  let v107 : BitVec 1 := Scalar.cmpi .eq v61 c15_i32_87
  let c3_i32_88 : BitVec 32 := 3#32
  let c0_i32_89 : BitVec 32 := 0#32
  let v108 : BitVec 32 := Scalar.select v107 c3_i32_88 c0_i32_89
  let v109 : BitVec 32 := Scalar.addi v106 v108
  let c1_i32_3019 : BitVec 32 := 1#32
  let v3040 : BitVec 32 := Scalar.muli v109 c1_i32_3019
  let v3041 : BitVec 32 := Scalar.addi c0_i32_3020 v3040
  v3041.toNat
def k0_dev62 (d0 : Dev nD) : Nat :=
  let c0_i32_3055 : BitVec 32 := 0#32
  let c0_i32_101 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c1_i32_4 : BitVec 32 := 1#32
  let c0_i32_5 : BitVec 32 := 0#32
  let v7 : BitVec 32 := Scalar.select v6 c1_i32_4 c0_i32_5
  let v8 : BitVec 32 := Scalar.addi v5 v7
  let c2_i32 : BitVec 32 := 2#32
  let v9 : BitVec 1 := Scalar.cmpi .eq v2 c2_i32
  let c14_i32 : BitVec 32 := 14#32
  let c0_i32_6 : BitVec 32 := 0#32
  let v10 : BitVec 32 := Scalar.select v9 c14_i32 c0_i32_6
  let v11 : BitVec 32 := Scalar.addi v8 v10
  let c3_i32 : BitVec 32 := 3#32
  let v12 : BitVec 1 := Scalar.cmpi .eq v2 c3_i32
  let c15_i32 : BitVec 32 := 15#32
  let c0_i32_7 : BitVec 32 := 0#32
  let v13 : BitVec 32 := Scalar.select v12 c15_i32 c0_i32_7
  let v14 : BitVec 32 := Scalar.addi v11 v13
  let c4_i32 : BitVec 32 := 4#32
  let v15 : BitVec 1 := Scalar.cmpi .eq v2 c4_i32
  let c3_i32_8 : BitVec 32 := 3#32
  let c0_i32_9 : BitVec 32 := 0#32
  let v16 : BitVec 32 := Scalar.select v15 c3_i32_8 c0_i32_9
  let v17 : BitVec 32 := Scalar.addi v14 v16
  let c5_i32 : BitVec 32 := 5#32
  let v18 : BitVec 1 := Scalar.cmpi .eq v2 c5_i32
  let c2_i32_10 : BitVec 32 := 2#32
  let c0_i32_11 : BitVec 32 := 0#32
  let v19 : BitVec 32 := Scalar.select v18 c2_i32_10 c0_i32_11
  let v20 : BitVec 32 := Scalar.addi v17 v19
  let c6_i32 : BitVec 32 := 6#32
  let v21 : BitVec 1 := Scalar.cmpi .eq v2 c6_i32
  let c13_i32 : BitVec 32 := 13#32
  let c0_i32_12 : BitVec 32 := 0#32
  let v22 : BitVec 32 := Scalar.select v21 c13_i32 c0_i32_12
  let v23 : BitVec 32 := Scalar.addi v20 v22
  let c7_i32 : BitVec 32 := 7#32
  let v24 : BitVec 1 := Scalar.cmpi .eq v2 c7_i32
  let c12_i32 : BitVec 32 := 12#32
  let c0_i32_13 : BitVec 32 := 0#32
  let v25 : BitVec 32 := Scalar.select v24 c12_i32 c0_i32_13
  let v26 : BitVec 32 := Scalar.addi v23 v25
  let c8_i32 : BitVec 32 := 8#32
  let v27 : BitVec 1 := Scalar.cmpi .eq v2 c8_i32
  let c4_i32_14 : BitVec 32 := 4#32
  let c0_i32_15 : BitVec 32 := 0#32
  let v28 : BitVec 32 := Scalar.select v27 c4_i32_14 c0_i32_15
  let v29 : BitVec 32 := Scalar.addi v26 v28
  let c9_i32 : BitVec 32 := 9#32
  let v30 : BitVec 1 := Scalar.cmpi .eq v2 c9_i32
  let c5_i32_16 : BitVec 32 := 5#32
  let c0_i32_17 : BitVec 32 := 0#32
  let v31 : BitVec 32 := Scalar.select v30 c5_i32_16 c0_i32_17
  let v32 : BitVec 32 := Scalar.addi v29 v31
  let c10_i32 : BitVec 32 := 10#32
  let v33 : BitVec 1 := Scalar.cmpi .eq v2 c10_i32
  let c10_i32_18 : BitVec 32 := 10#32
  let c0_i32_19 : BitVec 32 := 0#32
  let v34 : BitVec 32 := Scalar.select v33 c10_i32_18 c0_i32_19
  let v35 : BitVec 32 := Scalar.addi v32 v34
  let c11_i32 : BitVec 32 := 11#32
  let v36 : BitVec 1 := Scalar.cmpi .eq v2 c11_i32
  let c11_i32_20 : BitVec 32 := 11#32
  let c0_i32_21 : BitVec 32 := 0#32
  let v37 : BitVec 32 := Scalar.select v36 c11_i32_20 c0_i32_21
  let v38 : BitVec 32 := Scalar.addi v35 v37
  let c12_i32_22 : BitVec 32 := 12#32
  let v39 : BitVec 1 := Scalar.cmpi .eq v2 c12_i32_22
  let c7_i32_23 : BitVec 32 := 7#32
  let c0_i32_24 : BitVec 32 := 0#32
  let v40 : BitVec 32 := Scalar.select v39 c7_i32_23 c0_i32_24
  let v41 : BitVec 32 := Scalar.addi v38 v40
  let c13_i32_25 : BitVec 32 := 13#32
  let v42 : BitVec 1 := Scalar.cmpi .eq v2 c13_i32_25
  let c6_i32_26 : BitVec 32 := 6#32
  let c0_i32_27 : BitVec 32 := 0#32
  let v43 : BitVec 32 := Scalar.select v42 c6_i32_26 c0_i32_27
  let v44 : BitVec 32 := Scalar.addi v41 v43
  let c14_i32_28 : BitVec 32 := 14#32
  let v45 : BitVec 1 := Scalar.cmpi .eq v2 c14_i32_28
  let c9_i32_29 : BitVec 32 := 9#32
  let c0_i32_30 : BitVec 32 := 0#32
  let v46 : BitVec 32 := Scalar.select v45 c9_i32_29 c0_i32_30
  let v47 : BitVec 32 := Scalar.addi v44 v46
  let c15_i32_31 : BitVec 32 := 15#32
  let v48 : BitVec 1 := Scalar.cmpi .eq v2 c15_i32_31
  let c8_i32_32 : BitVec 32 := 8#32
  let c0_i32_33 : BitVec 32 := 0#32
  let v49 : BitVec 32 := Scalar.select v48 c8_i32_32 c0_i32_33
  let v50 : BitVec 32 := Scalar.addi v47 v49
  let c16_i32_90 : BitVec 32 := 16#32
  let v110 : BitVec 32 := Scalar.addi v50 c16_i32_90
  let c1_i32_91 : BitVec 32 := 1#32
  let v111 : BitVec 32 := Scalar.subi v110 c1_i32_91
  let c16_i32_92 : BitVec 32 := 16#32
  let c0_i32_93 : BitVec 32 := 0#32
  let v112 : BitVec 1 := Scalar.cmpi .eq c16_i32_92 c0_i32_93
  let c1_i32_94 : BitVec 32 := 1#32
  let v113 : BitVec 32 := Scalar.select v112 c1_i32_94 c16_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c0_i32_98 : BitVec 32 := 0#32
  let v122 : BitVec 1 := Scalar.cmpi .eq v121 c0_i32_98
  let c0_i32_99 : BitVec 32 := 0#32
  let c0_i32_100 : BitVec 32 := 0#32
  let v123 : BitVec 32 := Scalar.select v122 c0_i32_99 c0_i32_100
  let v124 : BitVec 32 := Scalar.addi c0_i32_101 v123
  let c1_i32_102 : BitVec 32 := 1#32
  let v125 : BitVec 1 := Scalar.cmpi .eq v121 c1_i32_102
  let c1_i32_103 : BitVec 32 := 1#32
  let c0_i32_104 : BitVec 32 := 0#32
  let v126 : BitVec 32 := Scalar.select v125 c1_i32_103 c0_i32_104
  let v127 : BitVec 32 := Scalar.addi v124 v126
  let c2_i32_105 : BitVec 32 := 2#32
  let v128 : BitVec 1 := Scalar.cmpi .eq v121 c2_i32_105
  let c5_i32_106 : BitVec 32 := 5#32
  let c0_i32_107 : BitVec 32 := 0#32
  let v129 : BitVec 32 := Scalar.select v128 c5_i32_106 c0_i32_107
  let v130 : BitVec 32 := Scalar.addi v127 v129
  let c3_i32_108 : BitVec 32 := 3#32
  let v131 : BitVec 1 := Scalar.cmpi .eq v121 c3_i32_108
  let c4_i32_109 : BitVec 32 := 4#32
  let c0_i32_110 : BitVec 32 := 0#32
  let v132 : BitVec 32 := Scalar.select v131 c4_i32_109 c0_i32_110
  let v133 : BitVec 32 := Scalar.addi v130 v132
  let c4_i32_111 : BitVec 32 := 4#32
  let v134 : BitVec 1 := Scalar.cmpi .eq v121 c4_i32_111
  let c8_i32_112 : BitVec 32 := 8#32
  let c0_i32_113 : BitVec 32 := 0#32
  let v135 : BitVec 32 := Scalar.select v134 c8_i32_112 c0_i32_113
  let v136 : BitVec 32 := Scalar.addi v133 v135
  let c5_i32_114 : BitVec 32 := 5#32
  let v137 : BitVec 1 := Scalar.cmpi .eq v121 c5_i32_114
  let c9_i32_115 : BitVec 32 := 9#32
  let c0_i32_116 : BitVec 32 := 0#32
  let v138 : BitVec 32 := Scalar.select v137 c9_i32_115 c0_i32_116
  let v139 : BitVec 32 := Scalar.addi v136 v138
  let c6_i32_117 : BitVec 32 := 6#32
  let v140 : BitVec 1 := Scalar.cmpi .eq v121 c6_i32_117
  let c13_i32_118 : BitVec 32 := 13#32
  let c0_i32_119 : BitVec 32 := 0#32
  let v141 : BitVec 32 := Scalar.select v140 c13_i32_118 c0_i32_119
  let v142 : BitVec 32 := Scalar.addi v139 v141
  let c7_i32_120 : BitVec 32 := 7#32
  let v143 : BitVec 1 := Scalar.cmpi .eq v121 c7_i32_120
  let c12_i32_121 : BitVec 32 := 12#32
  let c0_i32_122 : BitVec 32 := 0#32
  let v144 : BitVec 32 := Scalar.select v143 c12_i32_121 c0_i32_122
  let v145 : BitVec 32 := Scalar.addi v142 v144
  let c8_i32_123 : BitVec 32 := 8#32
  let v146 : BitVec 1 := Scalar.cmpi .eq v121 c8_i32_123
  let c15_i32_124 : BitVec 32 := 15#32
  let c0_i32_125 : BitVec 32 := 0#32
  let v147 : BitVec 32 := Scalar.select v146 c15_i32_124 c0_i32_125
  let v148 : BitVec 32 := Scalar.addi v145 v147
  let c9_i32_126 : BitVec 32 := 9#32
  let v149 : BitVec 1 := Scalar.cmpi .eq v121 c9_i32_126
  let c14_i32_127 : BitVec 32 := 14#32
  let c0_i32_128 : BitVec 32 := 0#32
  let v150 : BitVec 32 := Scalar.select v149 c14_i32_127 c0_i32_128
  let v151 : BitVec 32 := Scalar.addi v148 v150
  let c10_i32_129 : BitVec 32 := 10#32
  let v152 : BitVec 1 := Scalar.cmpi .eq v121 c10_i32_129
  let c10_i32_130 : BitVec 32 := 10#32
  let c0_i32_131 : BitVec 32 := 0#32
  let v153 : BitVec 32 := Scalar.select v152 c10_i32_130 c0_i32_131
  let v154 : BitVec 32 := Scalar.addi v151 v153
  let c11_i32_132 : BitVec 32 := 11#32
  let v155 : BitVec 1 := Scalar.cmpi .eq v121 c11_i32_132
  let c11_i32_133 : BitVec 32 := 11#32
  let c0_i32_134 : BitVec 32 := 0#32
  let v156 : BitVec 32 := Scalar.select v155 c11_i32_133 c0_i32_134
  let v157 : BitVec 32 := Scalar.addi v154 v156
  let c12_i32_135 : BitVec 32 := 12#32
  let v158 : BitVec 1 := Scalar.cmpi .eq v121 c12_i32_135
  let c7_i32_136 : BitVec 32 := 7#32
  let c0_i32_137 : BitVec 32 := 0#32
  let v159 : BitVec 32 := Scalar.select v158 c7_i32_136 c0_i32_137
  let v160 : BitVec 32 := Scalar.addi v157 v159
  let c13_i32_138 : BitVec 32 := 13#32
  let v161 : BitVec 1 := Scalar.cmpi .eq v121 c13_i32_138
  let c6_i32_139 : BitVec 32 := 6#32
  let c0_i32_140 : BitVec 32 := 0#32
  let v162 : BitVec 32 := Scalar.select v161 c6_i32_139 c0_i32_140
  let v163 : BitVec 32 := Scalar.addi v160 v162
  let c14_i32_141 : BitVec 32 := 14#32
  let v164 : BitVec 1 := Scalar.cmpi .eq v121 c14_i32_141
  let c2_i32_142 : BitVec 32 := 2#32
  let c0_i32_143 : BitVec 32 := 0#32
  let v165 : BitVec 32 := Scalar.select v164 c2_i32_142 c0_i32_143
  let v166 : BitVec 32 := Scalar.addi v163 v165
  let c15_i32_144 : BitVec 32 := 15#32
  let v167 : BitVec 1 := Scalar.cmpi .eq v121 c15_i32_144
  let c3_i32_145 : BitVec 32 := 3#32
  let c0_i32_146 : BitVec 32 := 0#32
  let v168 : BitVec 32 := Scalar.select v167 c3_i32_145 c0_i32_146
  let v169 : BitVec 32 := Scalar.addi v166 v168
  let c1_i32_3054 : BitVec 32 := 1#32
  let v3073 : BitVec 32 := Scalar.muli v169 c1_i32_3054
  let v3074 : BitVec 32 := Scalar.addi c0_i32_3055 v3073
  v3074.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x12288 : Shape := ⟨2, ![1536, 12288]⟩
abbrev S12288x1536 : Shape := ⟨2, ![12288, 1536]⟩
abbrev S1536x1536 : Shape := ⟨2, ![1536, 1536]⟩

abbrev nBuf : Space → Nat
  | .hbm => 3
  | .vmem => 0
  | .smem => 0
  | _ => 0

abbrev bufTy : (tb : Table) → Fin (tcTables nBuf tb) → BufTy
  | .hbm, ⟨0, _⟩ => ⟨S1536x12288, .f32⟩
  | .hbm, ⟨1, _⟩ => ⟨S12288x1536, .f32⟩
  | .hbm, ⟨2, _⟩ => ⟨S1536x1536, .f32⟩
  | _, _ => ⟨S1536x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Chain.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.Sem

variable {F : FTy → Type} [FloatOps F]

/-! ## The eight chains

A chain is one of the kernel's eight scratch buffers of slots with its two arrays of semaphores.
Data moves along it slot by slot, always to the same neighbour, and always for the same 384 columns
of the result. -/

/-- The programs the kernel's body is made of. -/
abbrev PU (F : FTy → Type) [FloatOps F] : Type 1 := Prog (TpuEff nD τ sig (Elt F) Λ₀ .tc) PUnit

/-- A slot of a buffer of `n` slots lies inside it. -/
theorem slot_inb {n k : ℕ} (h : k < n) :
    ∀ a, (![k, 0, 0] : Fin 3 → ℕ) a + S1x96x384.size a ≤ (⟨3, ![n, 96, 384]⟩ : Shape).size a := by
  intro a; fin_cases a
  · show k + 1 ≤ n; omega
  · show 0 + 96 ≤ 96; omega
  · show 0 + 384 ≤ 384; omega

/-- An entry of an array of `n` semaphores lies inside it. -/
theorem sem_inb {n k : ℕ} (h : k < n) :
    ∀ a, (![k] : Fin 1 → ℕ) a + S1.size a ≤ (⟨1, ![n]⟩ : Shape).size a := by
  intro a; fin_cases a; show k + 1 ≤ n; omega

/-- The rectangle of slot `k` in a buffer of `n` slots. -/
abbrev slotRect (n k : ℕ) (h : k < n) : Rect (⟨3, ![n, 96, 384]⟩ : Shape) :=
  Rect.unit (s := ⟨3, ![n, 96, 384]⟩) ![k, 0, 0] S1x96x384.size (slot_inb h)

/-- One chain: its buffer of slots, its send and receive semaphores, and its first column. -/
structure Chain where
  n : ℕ
  buf : Memref sig .tc .vmem ⟨3, ![n, 96, 384]⟩ .bf16
  whole : buf.IsWhole
  sS : DmaSems sig ⟨1, ![n]⟩
  sR : DmaSems sig ⟨1, ![n]⟩
  lo : ℕ
  hlo : S96x1536.Slices ![0, lo] S96x384
  words : ∀ k (h : k < n), (slotRect n k h).WholeWords (EltTy.packing .bf16)
  packed : ∀ k (h : k < n), (slotRect n k h).PackedRows (EltTy.packing .bf16)

namespace Chain

variable (X : Chain)

/-- Slot `k` as the transfers name it: 96 rows of 384. -/
abbrev slot (k : ℕ) (h : k < X.n) : Memref sig .tc .vmem S96x384 .bf16 :=
  (X.buf.slice (slotRect X.n k h) (fun _ => rfl)).squeeze S96x384 squeezes_S1x96x384_S96x384

/-- The `k`-th send semaphore. -/
abbrev semS (k : ℕ) (h : k < X.n) : DmaSem sig :=
  ((X.sS.slice (Rect.unit (s := ⟨1, ![X.n]⟩) ![k] S1.size (sem_inb h))).squeeze S_ squeezes_S1_S_).sem

/-- The `k`-th receive semaphore. -/
abbrev semR (k : ℕ) (h : k < X.n) : DmaSem sig :=
  ((X.sR.slice (Rect.unit (s := ⟨1, ![X.n]⟩) ![k] S1.size (sem_inb h))).squeeze S_ squeezes_S1_S_).sem

/-- A slot is made of whole words of its buffer. -/
theorem wordExact (k : ℕ) (h : k < X.n) : (X.slot k h).view.WordExact :=
  (X.whole.wordExact_slice rfl _ (X.words k h)).reshape _ _

/-- A slot is made of whole rows of its buffer, as a store of it asks. -/
theorem stores (k : ℕ) (h : k < X.n) : (X.buf.access (slotRect X.n k h)).Stores Finset.univ :=
  View.stores_vmem h_S1x96x384 (X.whole.storeExact_slice rfl _ (X.packed k h)) (fun _ => rfl)

end Chain

/-! ## The values of one step -/

/-- The product of 96 rows of the first operand with the second. -/
def part (a : FVec F S96x768 .f32) (b : FVec F S768x1536 .f32) : FVec F S96x1536 .f32 :=
  matmul dot_S96x768_S768x1536_S96x1536_1_0_0_1_n_n none (shapeCast S96x768 a shapeCasts_S96x768_S96x768)
    (shapeCast S768x1536 b shapeCasts_S768x1536_S768x1536) (constant S96x1536 .f32 0x00000000#32)

/-- The columns of a product a chain carries. -/
def cols (lo : ℕ) (h : S96x1536.Slices ![0, lo] S96x384) (p : FVec F S96x1536 .f32) : FVec F S96x384 .f32 :=
  extractStridedSlice S96x384 ![0, lo] p h

/-- What a chain sends first: its columns of a product, rounded. -/
def first (lo : ℕ) (h : S96x1536.Slices ![0, lo] S96x384) (p : FVec F S96x1536 .f32) : FVec F S96x384 .bf16 :=
  truncf .bf16 (cols lo h p) bitsLt_bf16_f32

/-- What a chain sends on: what it received plus its columns of a product, rounded. -/
def next (lo : ℕ) (h : S96x1536.Slices ![0, lo] S96x384) (p : FVec F S96x1536 .f32) (v : FVec F S96x384 .bf16) :
    FVec F S96x384 .bf16 :=
  truncf .bf16 (addf (extf .f32 v bitsLt_bf16_f32) (cols lo h p)) bitsLt_bf16_f32

/-- The result's columns: what two chains brought plus the device's own product. -/
def final (lo : ℕ) (h : S96x1536.Slices ![0, lo] S96x384) (p : FVec F S96x1536 .f32) (u v : FVec F S96x384 .bf16) :
    FVec F S96x384 .f32 :=
  addf (addf (extf .f32 u bitsLt_bf16_f32) (extf .f32 v bitsLt_bf16_f32)) (cols lo h p)

/-- 96 rows as one slot. -/
abbrev toSlot {e : FTy} (v : FVec F S96x384 e) : FVec F S1x96x384 e :=
  shapeCast S1x96x384 v shapeCasts_S96x384_S1x96x384

/-- A slot as 96 rows. -/
abbrev ofSlot {e : FTy} (v : FVec F S1x96x384 e) : FVec F S96x384 e :=
  shapeCast S96x384 v shapeCasts_S1x96x384_S96x384

/-! ## The body in steps -/

/-- Load 96 rows of the first operand and the whole second one, and go on with their product. -/
def loadPart (a0 : Memref sig .tc .vmem S1536x768 .f32) (a1 : Memref sig .tc .vmem S768x1536 .f32)
    (off : Fin 2 → ℕ) (h : ∀ a, off a + S96x768.size a ≤ S1536x768.size a) (K : FVec F S96x1536 .f32 → PU F) : PU F :=
  Prog.op (.load a0 (Rect.unit (s := S1536x768) off S96x768.size h).toLoadRect (View.loadsAt_vmem h_S96x768)) fun (a : Vec F S96x768 .f32) =>
  Prog.op (.load a1 (Rect.unit (s := S768x1536) ![0, 0] S768x1536.size inb_S768x1536_S768x1536_0_0).toLoadRect
    (View.loadsAt_vmem h_S768x1536)) fun (b : Vec F S768x1536 .f32) =>
  K (part a b)

/-- Load a slot. -/
abbrev loadSlot (X : Chain) (k : ℕ) (h : k < X.n) (K : Vec F S1x96x384 .bf16 → PU F) : PU F :=
  Prog.op (.load X.buf (slotRect X.n k h).toLoadRect (View.loadsAt_vmem h_S1x96x384)) K

/-- Store a slot. -/
abbrev storeSlot (X : Chain) (k : ℕ) (h : k < X.n) (w : FVec F S1x96x384 .bf16) (K : PU F) : PU F :=
  Prog.op (.store X.buf (slotRect X.n k h) w Finset.univ (X.stores k h) (.inl rfl)) fun _ => K

/-- Copy slot `k` to slot `k + 1` of device `t`. -/
def sendSlot (X : Chain) (k : ℕ) (h : k + 1 < X.n) (t : Dev nD) (K : PU F) : PU F :=
  Prog.op (.enqueueDma (X.slot k (by omega)) (.remote (Dev.tc t) (X.slot (k + 1) h) (.dma (X.semS k (by omega))))
    (.dma (X.semR (k + 1) h)) (X.wordExact _ _) (X.wordExact _ _) ⟨⟨rfl, Or.inl rfl⟩, trivial⟩) fun _ => K

/-- Fill slot 0 with the chain's columns of a product. -/
def fillSlot (X : Chain) (h : 0 < X.n) (p : FVec F S96x1536 .f32) (K : PU F) : PU F :=
  loadSlot X 0 h fun _ => storeSlot X 0 h (toSlot (first X.lo X.hlo p)) K

/-- Wait for the copy out of slot `k` to be read and for the one into slot `k + 1` to land. -/
def waitSlot (X : Chain) (k : ℕ) (h : k + 1 < X.n) (K : PU F) : PU F :=
  Prog.op (.waitDma2 (X.semS k (by omega)) (X.slot (k + 1) h) (X.slot k (by omega)) (X.wordExact _ _) (X.wordExact _ _)) fun _ =>
  Prog.op (.waitDma2 (X.semR (k + 1) h) (X.slot k (by omega)) (X.slot (k + 1) h) (X.wordExact _ _) (X.wordExact _ _)) fun _ => K

/-- Step `k` of a chain but its last: wait, add the chain's columns of a product to what came, send
    it on to `t`. -/
def hop (X : Chain) (k : ℕ) (h : k + 2 < X.n) (p : FVec F S96x1536 .f32) (t : Dev nD) (K : PU F) : PU F :=
  waitSlot X k (by omega) <| loadSlot X (k + 1) (by omega) fun v => loadSlot X (k + 1) (by omega) fun _ =>
  storeSlot X (k + 1) (by omega) (toSlot (next X.lo X.hlo p (ofSlot v))) <| sendSlot X (k + 1) h t K

/-- Bring two chains together into their columns of the result. -/
def finish (a2 : Memref sig .tc .vmem S96x1536 .f32) (X Y : Chain) (k l : ℕ) (hk : k < X.n) (hl : l < Y.n)
    (h : ∀ a, (![0, X.lo] : Fin 2 → ℕ) a + S96x384.size a ≤ S96x1536.size a)
    (hlo : S96x1536.Slices ![0, X.lo] S96x384) (p : FVec F S96x1536 .f32) (K : PU F) : PU F :=
  loadSlot X k hk fun u => loadSlot Y l hl fun v =>
  Prog.op (.load a2 (Rect.unit (s := S96x1536) ![0, X.lo] S96x384.size h).toLoadRect (View.loadsAt_vmem h_S96x384)) fun _ =>
  Prog.op (.store a2 (Rect.unit (s := S96x1536) ![0, X.lo] S96x384.size h)
    (final X.lo hlo p (ofSlot u) (ofSlot v)) Finset.univ (View.stores_vmem_bits_univ h_S96x384 rfl) (.inl rfl)) fun _ => K

/-! ## The chains of this kernel -/

/-- The facts of a buffer of nine slots. -/
theorem words9 : ∀ k (h : k < 9), (slotRect 9 k h).WholeWords (EltTy.packing .bf16) := by decide
theorem packed9 : ∀ k (h : k < 9), (slotRect 9 k h).PackedRows (EltTy.packing .bf16) := by decide
/-- The facts of a buffer of eight slots. -/
theorem words8 : ∀ k (h : k < 8), (slotRect 8 k h).WholeWords (EltTy.packing .bf16) := by decide
theorem packed8 : ∀ k (h : k < 8), (slotRect 8 k h).PackedRows (EltTy.packing .bf16) := by decide

abbrev X0 : Chain := ⟨9, Memref.whole cc0_scratch0, Memref.isWhole_whole _, cc0_scratch8, cc0_scratch16, 0,
  slices_S96x1536_o0_0_S96x384, words9, packed9⟩
abbrev X1 : Chain := ⟨9, Memref.whole cc0_scratch1, Memref.isWhole_whole _, cc0_scratch9, cc0_scratch17, 768,
  slices_S96x1536_o0_768_S96x384, words9, packed9⟩
abbrev X2 : Chain := ⟨9, Memref.whole cc0_scratch2, Memref.isWhole_whole _, cc0_scratch10, cc0_scratch18, 384,
  slices_S96x1536_o0_384_S96x384, words9, packed9⟩
abbrev X3 : Chain := ⟨9, Memref.whole cc0_scratch3, Memref.isWhole_whole _, cc0_scratch11, cc0_scratch19, 1152,
  slices_S96x1536_o0_1152_S96x384, words9, packed9⟩
abbrev X4 : Chain := ⟨8, Memref.whole cc0_scratch4, Memref.isWhole_whole _, cc0_scratch12, cc0_scratch20, 768,
  slices_S96x1536_o0_768_S96x384, words8, packed8⟩
abbrev X5 : Chain := ⟨8, Memref.whole cc0_scratch5, Memref.isWhole_whole _, cc0_scratch13, cc0_scratch21, 0,
  slices_S96x1536_o0_0_S96x384, words8, packed8⟩
abbrev X6 : Chain := ⟨8, Memref.whole cc0_scratch6, Memref.isWhole_whole _, cc0_scratch14, cc0_scratch22, 1152,
  slices_S96x1536_o0_1152_S96x384, words8, packed8⟩
abbrev X7 : Chain := ⟨8, Memref.whole cc0_scratch7, Memref.isWhole_whole _, cc0_scratch15, cc0_scratch23, 384,
  slices_S96x1536_o0_384_S96x384, words8, packed8⟩

/-- The chains by number. Those of even number go to the next device, the others to the previous. -/
def chn : Fin 8 → Chain
  | 0 => X0 | 1 => X1 | 2 => X2 | 3 => X3 | 4 => X4 | 5 => X5 | 6 => X6 | 7 => X7

/-! ## The ring of devices -/

set_option backward.proofsInPublic true in
/-- Where a device stands on the ring. -/
def pos (c : Dev nD) : ℕ := (![0, 1, 14, 15, 3, 2, 13, 12, 4, 5, 10, 11, 7, 6, 9, 8] : Fin 16 → ℕ) c

/-- The device at a place of the ring, counted modulo 16. -/
def chip (k : ℕ) : Dev nD :=
  (![0, 1, 5, 4, 8, 9, 13, 12, 15, 14, 10, 11, 7, 6, 2, 3] : Fin 16 → Dev nD) ⟨k % 16, Nat.mod_lt _ (by decide)⟩

/-- The next and the previous device on the ring. -/
def nxt (c : Dev nD) : Dev nD := chip (pos c + 1)
def prv (c : Dev nD) : Dev nD := chip (pos c + 15)

/-- The chunk `k` places along the ring from `c`. -/
def chunk (c : Dev nD) (k : ℕ) : Dev nD := chip (pos c + k)

/-- Where the 96 rows of chunk `j` start. -/
def rowOff (j : Dev nD) : Fin 2 → ℕ := ![96 * j.val, 0]

theorem rowOff_inb (j : Dev nD) : ∀ a, rowOff j a + S96x768.size a ≤ S1536x768.size a := by
  revert j; decide

/-- The devices the kernel computes, by the order of their use: two for its signals, then one for each copy. -/
def dv (d : Dev nD) : ℕ → Dev nD
  | 1 => ⟨k0_dev1 d, k0_dev1_lt d⟩
  | 2 => ⟨k0_dev2 d, k0_dev2_lt d⟩
  | 3 => ⟨k0_dev3 d, k0_dev3_lt d⟩
  | 4 => ⟨k0_dev4 d, k0_dev4_lt d⟩
  | 5 => ⟨k0_dev5 d, k0_dev5_lt d⟩
  | 6 => ⟨k0_dev6 d, k0_dev6_lt d⟩
  | 7 => ⟨k0_dev7 d, k0_dev7_lt d⟩
  | 8 => ⟨k0_dev8 d, k0_dev8_lt d⟩
  | 9 => ⟨k0_dev9 d, k0_dev9_lt d⟩
  | 10 => ⟨k0_dev10 d, k0_dev10_lt d⟩
  | 11 => ⟨k0_dev11 d, k0_dev11_lt d⟩
  | 12 => ⟨k0_dev12 d, k0_dev12_lt d⟩
  | 13 => ⟨k0_dev13 d, k0_dev13_lt d⟩
  | 14 => ⟨k0_dev14 d, k0_dev14_lt d⟩
  | 15 => ⟨k0_dev15 d, k0_dev15_lt d⟩
  | 16 => ⟨k0_dev16 d, k0_dev16_lt d⟩
  | 17 => ⟨k0_dev17 d, k0_dev17_lt d⟩
  | 18 => ⟨k0_dev18 d, k0_dev18_lt d⟩
  | 19 => ⟨k0_dev19 d, k0_dev19_lt d⟩
  | 20 => ⟨k0_dev20 d, k0_dev20_lt d⟩
  | 21 => ⟨k0_dev21 d, k0_dev21_lt d⟩
  | 22 => ⟨k0_dev22 d, k0_dev22_lt d⟩
  | 23 => ⟨k0_dev23 d, k0_dev23_lt d⟩
  | 24 => ⟨k0_dev24 d, k0_dev24_lt d⟩
  | 25 => ⟨k0_dev25 d, k0_dev25_lt d⟩
  | 26 => ⟨k0_dev26 d, k0_dev26_lt d⟩
  | 27 => ⟨k0_dev27 d, k0_dev27_lt d⟩
  | 28 => ⟨k0_dev28 d, k0_dev28_lt d⟩
  | 29 => ⟨k0_dev29 d, k0_dev29_lt d⟩
  | 30 => ⟨k0_dev30 d, k0_dev30_lt d⟩
  | 31 => ⟨k0_dev31 d, k0_dev31_lt d⟩
  | 32 => ⟨k0_dev32 d, k0_dev32_lt d⟩
  | 33 => ⟨k0_dev33 d, k0_dev33_lt d⟩
  | 34 => ⟨k0_dev34 d, k0_dev34_lt d⟩
  | 35 => ⟨k0_dev35 d, k0_dev35_lt d⟩
  | 36 => ⟨k0_dev36 d, k0_dev36_lt d⟩
  | 37 => ⟨k0_dev37 d, k0_dev37_lt d⟩
  | 38 => ⟨k0_dev38 d, k0_dev38_lt d⟩
  | 39 => ⟨k0_dev39 d, k0_dev39_lt d⟩
  | 40 => ⟨k0_dev40 d, k0_dev40_lt d⟩
  | 41 => ⟨k0_dev41 d, k0_dev41_lt d⟩
  | 42 => ⟨k0_dev42 d, k0_dev42_lt d⟩
  | 43 => ⟨k0_dev43 d, k0_dev43_lt d⟩
  | 44 => ⟨k0_dev44 d, k0_dev44_lt d⟩
  | 45 => ⟨k0_dev45 d, k0_dev45_lt d⟩
  | 46 => ⟨k0_dev46 d, k0_dev46_lt d⟩
  | 47 => ⟨k0_dev47 d, k0_dev47_lt d⟩
  | 48 => ⟨k0_dev48 d, k0_dev48_lt d⟩
  | 49 => ⟨k0_dev49 d, k0_dev49_lt d⟩
  | 50 => ⟨k0_dev50 d, k0_dev50_lt d⟩
  | 51 => ⟨k0_dev51 d, k0_dev51_lt d⟩
  | 52 => ⟨k0_dev52 d, k0_dev52_lt d⟩
  | 53 => ⟨k0_dev53 d, k0_dev53_lt d⟩
  | 54 => ⟨k0_dev54 d, k0_dev54_lt d⟩
  | 55 => ⟨k0_dev55 d, k0_dev55_lt d⟩
  | 56 => ⟨k0_dev56 d, k0_dev56_lt d⟩
  | 57 => ⟨k0_dev57 d, k0_dev57_lt d⟩
  | 58 => ⟨k0_dev58 d, k0_dev58_lt d⟩
  | 59 => ⟨k0_dev59 d, k0_dev59_lt d⟩
  | 60 => ⟨k0_dev60 d, k0_dev60_lt d⟩
  | 61 => ⟨k0_dev61 d, k0_dev61_lt d⟩
  | 62 => ⟨k0_dev62 d, k0_dev62_lt d⟩
  | j => if j % 2 = 1 then nxt d else prv d

/-- Where the rows the kernel loads start, by their distance along the ring. -/
def of (d : Dev nD) : ℕ → Fin 2 → ℕ
  | 0 => k0_off2 d 6#32
  | 1 => k0_off2 d 5#32
  | 2 => k0_off2 d 4#32
  | 3 => k0_off2 d 3#32
  | 4 => k0_off2 d 2#32
  | 5 => k0_off2 d 1#32
  | 6 => k0_off1 d 6#32
  | 7 => k0_off1 d 7#32
  | 8 => k0_off1 d 8#32
  | 9 => k0_off1 d 9#32
  | 10 => k0_off1 d 10#32
  | 11 => k0_off3 d 0#32
  | 12 => k0_off3 d 1#32
  | 13 => k0_off3 d 2#32
  | 14 => k0_off3 d 3#32
  | 15 => k0_off3 d 4#32
  | k => rowOff (chunk d k)

/-- The devices and the rows, in the ring's terms. -/
theorem of_eq' : ∀ k : Fin 16, ∀ d, of d k = rowOff (chunk d k) := by decide +kernel
theorem dv_eq' : ∀ j : Fin 63, ∀ d, dv d j = if j.val % 2 = 1 then nxt d else prv d := by decide +kernel

/-- Every odd use is of the next device, every even one of the previous. -/
def dvr (d : Dev nD) (j : ℕ) : Dev nD := if j % 2 = 1 then nxt d else prv d

/-- The rows of the chunk `k` places along. -/
def ofr (d : Dev nD) (k : ℕ) : Fin 2 → ℕ := rowOff (chunk d k)

theorem dv_eq (d : Dev nD) : dv d = dvr d := by
  funext j
  by_cases h : j < 63
  · exact dv_eq' ⟨j, h⟩ d
  · have : ∃ i, j = i + 63 := ⟨j - 63, by omega⟩
    obtain ⟨i, rfl⟩ := this
    rfl

theorem of_eq (d : Dev nD) : of d = ofr d := by
  funext k
  by_cases h : k < 16
  · exact of_eq' ⟨k, h⟩ d
  · have : ∃ i, k = i + 16 := ⟨k - 16, by omega⟩
    obtain ⟨i, rfl⟩ := this
    rfl

theorem ofr_inb (d : Dev nD) : ∀ k a, ofr d k a + S96x768.size a ≤ S1536x768.size a := fun k => rowOff_inb _
theorem of_inb (d : Dev nD) : ∀ k a, of d k a + S96x768.size a ≤ S1536x768.size a := by rw [of_eq]; exact ofr_inb d

/-- Step `s` of the first four chains: the clockwise ones add `p`, the others `q`. -/
def hopsA (s : ℕ) (h : s + 2 < 9) (p q : FVec F S96x1536 .f32) (t0 t1 t2 t3 : Dev nD) (K : PU F) : PU F :=
  hop (chn 0) s h p t0 <| hop (chn 1) s h q t1 <| hop (chn 2) s h p t2 <| hop (chn 3) s h q t3 K

/-- Step `s` of the last four chains: the clockwise ones add `p`, the others `q`. -/
def hopsB (s : ℕ) (h : s + 2 < 8) (p q : FVec F S96x1536 .f32) (t4 t5 t6 t7 : Dev nD) (K : PU F) : PU F :=
  hop (chn 4) s h p t4 <| hop (chn 5) s h q t5 <| hop (chn 6) s h p t6 <| hop (chn 7) s h q t7 K

/-- Everything after the devices are known to be there and the first products are sent: the steps
    of the eight chains, then the result. `dv` gives the devices by the order of their use, `of k` where
    the 96 rows of the chunk `k` places along the ring start. -/
def tail (a0 : Memref sig .tc .vmem S1536x768 .f32) (a1 : Memref sig .tc .vmem S768x1536 .f32)
    (a2 : Memref sig .tc .vmem S96x1536 .f32) (dv : ℕ → Dev nD) (of : ℕ → Fin 2 → ℕ)
    (hof : ∀ k a, of k a + S96x768.size a ≤ S1536x768.size a) (p7 q9 : FVec F S96x1536 .f32) : PU F :=
  loadPart a0 a1 (of 6) (hof 6) fun p6 =>
  loadPart a0 a1 (of 10) (hof 10) fun q10 =>
  hopsA 0 (by decide) p7 q9 (dv 11) (dv 12) (dv 13) (dv 14) <|
  hopsB 0 (by decide) p6 q10 (dv 15) (dv 16) (dv 17) (dv 18) <|
  loadPart a0 a1 (of 5) (hof 5) fun p5 =>
  loadPart a0 a1 (of 11) (hof 11) fun q11 =>
  hopsA 1 (by decide) p6 q10 (dv 19) (dv 20) (dv 21) (dv 22) <|
  hopsB 1 (by decide) p5 q11 (dv 23) (dv 24) (dv 25) (dv 26) <|
  loadPart a0 a1 (of 4) (hof 4) fun p4 =>
  loadPart a0 a1 (of 12) (hof 12) fun q12 =>
  hopsA 2 (by decide) p5 q11 (dv 27) (dv 28) (dv 29) (dv 30) <|
  hopsB 2 (by decide) p4 q12 (dv 31) (dv 32) (dv 33) (dv 34) <|
  loadPart a0 a1 (of 3) (hof 3) fun p3 =>
  loadPart a0 a1 (of 13) (hof 13) fun q13 =>
  hopsA 3 (by decide) p4 q12 (dv 35) (dv 36) (dv 37) (dv 38) <|
  hopsB 3 (by decide) p3 q13 (dv 39) (dv 40) (dv 41) (dv 42) <|
  loadPart a0 a1 (of 2) (hof 2) fun p2 =>
  loadPart a0 a1 (of 14) (hof 14) fun q14 =>
  hopsA 4 (by decide) p3 q13 (dv 43) (dv 44) (dv 45) (dv 46) <|
  hopsB 4 (by decide) p2 q14 (dv 47) (dv 48) (dv 49) (dv 50) <|
  loadPart a0 a1 (of 1) (hof 1) fun p1 =>
  loadPart a0 a1 (of 15) (hof 15) fun q15 =>
  hopsA 5 (by decide) p2 q14 (dv 51) (dv 52) (dv 53) (dv 54) <|
  hopsB 5 (by decide) p1 q15 (dv 55) (dv 56) (dv 57) (dv 58) <|
  loadPart a0 a1 (of 0) (hof 0) fun p0 =>
  hopsA 6 (by decide) p1 q15 (dv 59) (dv 60) (dv 61) (dv 62) <|
  waitSlot (chn 4) 6 (by decide) <| waitSlot (chn 5) 6 (by decide) <| waitSlot (chn 6) 6 (by decide) <| waitSlot (chn 7) 6 (by decide) <|
  waitSlot (chn 0) 7 (by decide) <| waitSlot (chn 1) 7 (by decide) <| waitSlot (chn 2) 7 (by decide) <| waitSlot (chn 3) 7 (by decide) <|
  finish a2 (chn 0) (chn 5) 8 7 (by decide) (by decide) inb_S96x1536_S96x384_0_0 slices_S96x1536_o0_0_S96x384 p0 <|
  finish a2 (chn 1) (chn 4) 8 7 (by decide) (by decide) inb_S96x1536_S96x384_0_768 slices_S96x1536_o0_768_S96x384 p0 <|
  finish a2 (chn 2) (chn 7) 8 7 (by decide) (by decide) inb_S96x1536_S96x384_0_384 slices_S96x1536_o0_384_S96x384 p0 <|
  finish a2 (chn 3) (chn 6) 8 7 (by decide) (by decide) inb_S96x1536_S96x384_0_1152 slices_S96x1536_o0_1152_S96x384 p0 <|
  Prog.ret ⟨⟩

/-- The body once it knows its device. -/
def bodyOn (a0 : Memref sig .tc .vmem S1536x768 .f32) (a1 : Memref sig .tc .vmem S768x1536 .f32)
    (a2 : Memref sig .tc .vmem S96x1536 .f32) (dv : ℕ → Dev nD) (of : ℕ → Fin 2 → ℕ)
    (hof : ∀ k a, of k a + S96x768.size a ≤ S1536x768.size a) : PU F :=
  Prog.op (.semSignal ((dv 1), .tc) barrier0 1) fun _ =>
  Prog.op (.semSignal ((dv 2), .tc) barrier0 1) fun _ =>
  loadPart a0 a1 (of 8) (hof 8) fun p8 =>
  fillSlot (chn 0) (by decide) p8 <| fillSlot (chn 2) (by decide) p8 <| fillSlot (chn 1) (by decide) p8 <| fillSlot (chn 3) (by decide) p8 <|
  Prog.op (.semWait barrier0 2) fun _ =>
  sendSlot (chn 0) 0 (by decide) (dv 3) <| sendSlot (chn 1) 0 (by decide) (dv 4) <|
  sendSlot (chn 2) 0 (by decide) (dv 5) <| sendSlot (chn 3) 0 (by decide) (dv 6) <|
  loadPart a0 a1 (of 7) (hof 7) fun p7 =>
  loadPart a0 a1 (of 9) (hof 9) fun q9 =>
  fillSlot (chn 4) (by decide) p7 <| fillSlot (chn 6) (by decide) p7 <| fillSlot (chn 5) (by decide) q9 <| fillSlot (chn 7) (by decide) q9 <|
  sendSlot (chn 4) 0 (by decide) (dv 7) <| sendSlot (chn 5) 0 (by decide) (dv 8) <|
  sendSlot (chn 6) 0 (by decide) (dv 9) <| sendSlot (chn 7) 0 (by decide) (dv 10) <|
  tail a0 a1 a2 dv of hof p7 q9

end Cert.RingProof
end
-- ==== Proof.Body.lean ====
module

public import proofs.«01_k».proof.Proof.Chain

@[expose] public section

noncomputable section

namespace Cert.RingProof

open Cert.KernelIdeal Cert.KernelIdeal.Gen
open Idealize.ShloMosaic
open Idealize.ShloMosaic.TcCoe
open Idealize.SL Idealize.SL.Sem

variable {F : FTy → Type} [FloatOps F]

/-- The steps of the body on device `c`. -/
def steps (a0 : Memref sig .tc .vmem S1536x768 .f32) (a1 : Memref sig .tc .vmem S768x1536 .f32)
    (a2 : Memref sig .tc .vmem S96x1536 .f32) (c : Dev nD) : PU F :=
  bodyOn a0 a1 a2 (dvr c) (ofr c) (ofr_inb c)

set_option maxRecDepth 65536 in
/-- The printed body is `bodyOn` at what it computes from the device it reads. -/
theorem body_eq' (t : Fin cfg0.N) :
    bodyAt0 (F := F) t = Prog.op .deviceId fun d => bodyOn (win0_0.stage (cfg0.slots t 0)) (win0_1.stage (cfg0.slots t 1))
      (win0_2.stage (cfg0.slots t 2)) (dv d) (of d) (of_inb d) := rfl

theorem bodyOn_congr (a0 : Memref sig .tc .vmem S1536x768 .f32) (a1 : Memref sig .tc .vmem S768x1536 .f32)
    (a2 : Memref sig .tc .vmem S96x1536 .f32) {d d' : ℕ → Dev nD} {o o' : ℕ → Fin 2 → ℕ} (hd : d = d') (ho : o = o')
    (h : ∀ k a, o k a + S96x768.size a ≤ S1536x768.size a) (h' : ∀ k a, o' k a + S96x768.size a ≤ S1536x768.size a) :
    bodyOn (F := F) a0 a1 a2 d o h = bodyOn a0 a1 a2 d' o' h' := by subst hd ho; rfl

/-- The printed body reads its device and takes the steps. -/
theorem body_eq (t : Fin cfg0.N) :
    bodyAt0 (F := F) t = Prog.op .deviceId fun d => steps (win0_0.stage (cfg0.slots t 0)) (win0_1.stage (cfg0.slots t 1))
      (win0_2.stage (cfg0.slots t 2)) d := by
  rw [body_eq']
  exact congrArg _ (funext fun d => bodyOn_congr _ _ _ (dv_eq d) (of_eq d) _ _)

end Cert.RingProof
end
-- ==== Proof.Slots.lean ====
module

public import proofs.«01_k».proof.Proof.Body
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The logic's resources: the pipeline's rounds, and those of this kernel's semaphores -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Running a program of the body on device `c`. -/
abbrev runs (c : Dev nD) (p : PU F) (Q : PUnit → sProp 𝕄) : sProp 𝕄 :=
  wp frame (wpE (defs₀ (F := F)) 𝒱₀ (c : Thread nD τ) none) Set.univ p Q

/-! ## Slots -/

/-- Device `c` holds slot `k` of a chain, at contents `v`. -/
def slotO (X : Chain) (c : Dev nD) (k : ℕ) (h : k < X.n) (v : FVec F S96x384 .bf16) : sProp 𝕄 :=
  owns (c : Thread nD τ) (X.slot k h) fullShare v

instance slotO_storable (X : Chain) (c : Dev nD) (k : ℕ) (h : k < X.n) (v : FVec F S96x384 .bf16) :
    BI.Storable (upEmb : UEmb _ 𝕄) (slotO X c k h v) := by unfold slotO; infer_instance

omit [FloatOps F] in
theorem ofSlot_toSlot (v : FVec F S96x384 .bf16) : ofSlot (toSlot v) = v := by
  exact shapeCast_shapeCast _ _ _

omit [FloatOps F] in
theorem toSlot_ofSlot (v : FVec F S1x96x384 .bf16) : toSlot (ofSlot v) = v := by
  exact shapeCast_shapeCast _ _ _

/-- Loading a slot gives its contents. -/
theorem wp_loadSlot (X : Chain) (c : Dev nD) (k : ℕ) (h : k < X.n) (v : FVec F S96x384 .bf16)
    (K : Vec F S1x96x384 .bf16 → PU F) (Q : PUnit → sProp 𝕄) :
    slotO X c k h v ⊢ iprop((slotO X c k h v -∗ runs c (K (toSlot v)) Q) -∗ runs c (loadSlot X k h K) Q) := by
  unfold slotO owns
  iintro ⟨%f, %hf, H⟩ Hk
  have hs : X.buf.view.setOn (slotRect X.n k h).toLoadRect.set ⊆ (X.slot k h).view.set := by
    have e : (X.slot k h).view.set = X.buf.view.setOn (slotRect X.n k h).set :=
      (View.set_reshape (X.buf.view.slice (slotRect X.n k h)) _).trans (View.set_slice _ _)
    exact e.symm.subset
  iapply (wp_load 𝒱₀ (c : Thread nD τ) none Set.univ (m := X.buf) hs) $$ H
  iintro H
  have hv : X.buf.view.readAt (Elt F) (slotRect X.n k h).toLoadRect f = toSlot v := by
    rw [← hf]; exact (toSlot_ofSlot _).symm
  rw [hv]
  iapply Hk
  iexists f; isplitr; · ipureintro; exact hf
  iexact H

/-- Storing a slot replaces its contents. -/
theorem wp_storeSlot (X : Chain) (c : Dev nD) (k : ℕ) (h : k < X.n) (v w : FVec F S96x384 .bf16)
    (K : PU F) (Q : PUnit → sProp 𝕄) :
    slotO X c k h v ⊢ iprop((slotO X c k h w -∗ runs c K Q) -∗ runs c (storeSlot X k h (toSlot w) K) Q) := by
  unfold slotO owns
  iintro ⟨%f, %hf, H⟩ Hk
  have hs : (X.buf.access (slotRect X.n k h)).setOn Finset.univ ⊆ (X.slot k h).view.set := by
    have e : (X.slot k h).view.set = (X.buf.access (slotRect X.n k h)).set :=
      View.set_reshape (X.buf.view.slice (slotRect X.n k h)) _
    exact e.symm.subset
  iapply (wp_store 𝒱₀ (c : Thread nD τ) none Set.univ (m := X.buf) (r := slotRect X.n k h) (Mk := Finset.univ) hs) $$ H
  iintro H
  iapply Hk
  iexists _; isplitr
  rotate_left
  · iexact H
  · ipureintro
    have : (X.buf.access (slotRect X.n k h)).read (Elt F)
        ((X.buf.access (slotRect X.n k h)).write (Elt F) f (toSlot w) Finset.univ) = toSlot w := View.read_write_univ _ _
    exact (congrArg ofSlot this).trans (ofSlot_toSlot w)

end Cert.RingProof
end
-- ==== Proof.Proto.lean ====
module

public import proofs.«01_k».proof.Proof.Slots

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The ring -/

theorem prv_nxt (c : Dev nD) : prv (nxt c) = c := by revert c; decide +kernel
theorem nxt_prv (c : Dev nD) : nxt (prv c) = c := by revert c; decide +kernel

/-- The ring's rotation. -/
def ring : Dev nD ≃ Dev nD := ⟨nxt, prv, prv_nxt, nxt_prv⟩

/-- Where a chain sends to, and where it receives from: the chains of even number go forward. -/
def tgt (i : Fin 8) (c : Dev nD) : Dev nD := if i.val % 2 = 0 then nxt c else prv c
def src (i : Fin 8) (c : Dev nD) : Dev nD := if i.val % 2 = 0 then prv c else nxt c

theorem src_tgt (i : Fin 8) (c : Dev nD) : src i (tgt i c) = c := by
  unfold src tgt; split
  · exact prv_nxt c
  · exact nxt_prv c

theorem tgt_src (i : Fin 8) (c : Dev nD) : tgt i (src i c) = c := by
  unfold src tgt; split
  · exact nxt_prv c
  · exact prv_nxt c

/-! ## The semaphores -/

/-- How many slots a chain has: nine or eight. -/
theorem chn_n (i : Fin 8) : (chn i).n = if i.val < 4 then 9 else 8 := by revert i; decide

/-- What a transfer's semaphore is for: `false` for sending, the chain, and the number of the slot. -/
def tag (j : DmaSem sig) : Option (Bool × Fin 8 × ℕ) :=
  if j.val < 3 then none
  else if j.val < 39 then some (false, Fin.ofNat 8 ((j.val - 3) / 9), (j.val - 3) % 9)
  else if j.val < 71 then some (false, Fin.ofNat 8 (4 + (j.val - 39) / 8), (j.val - 39) % 8)
  else if j.val < 107 then some (true, Fin.ofNat 8 ((j.val - 71) / 9), (j.val - 71) % 9)
  else some (true, Fin.ofNat 8 (4 + (j.val - 107) / 8), (j.val - 107) % 8)

theorem tag_semS' : ∀ i : Fin 8, ∀ k : Fin 9, ∀ h : k.val < (chn i).n, tag ((chn i).semS k.val h) = some (false, i, k.val) := by
  decide +kernel
theorem tag_semR' : ∀ i : Fin 8, ∀ k : Fin 9, ∀ h : k.val < (chn i).n, tag ((chn i).semR k.val h) = some (true, i, k.val) := by
  decide +kernel

theorem lt_nine {i : Fin 8} {k : ℕ} (h : k < (chn i).n) : k < 9 := by
  have := chn_n i; split at this <;> omega

theorem tag_semS (i : Fin 8) (k : ℕ) (h : k < (chn i).n) : tag ((chn i).semS k h) = some (false, i, k) :=
  tag_semS' i ⟨k, lt_nine h⟩ h
theorem tag_semR (i : Fin 8) (k : ℕ) (h : k < (chn i).n) : tag ((chn i).semR k h) = some (true, i, k) :=
  tag_semR' i ⟨k, lt_nine h⟩ h

/-- Whether the kernel uses a semaphore: it sends from every slot but the last, and receives into every slot but the first. -/
def live : Bool × Fin 8 × ℕ → Prop
  | (false, i, k) => k + 1 < (chn i).n
  | (true, _, k) => 1 ≤ k

instance : DecidablePred live := fun ⟨b, i, k⟩ => by cases b <;> unfold live <;> infer_instance

/-- The semaphores as cells of a device. -/
abbrev barG (c : Dev nD) : GSem nD τ sig := ((c : Thread nD τ), .reg barrier0)
abbrev sendG (i : Fin 8) (k : ℕ) (h : k < (chn i).n) (c : Dev nD) : GSem nD τ sig := ((c : Thread nD τ), .dma ((chn i).semS k h))
abbrev recvG (i : Fin 8) (k : ℕ) (h : k < (chn i).n) (c : Dev nD) : GSem nD τ sig := ((c : Thread nD τ), .dma ((chn i).semR k h))

/-- What one copy of a slot adds to a semaphore. -/
def N : ℕ := ((chn 0).slot 0 (by decide)).view.dmaCredit
theorem N_pos : 0 < N := View.dmaCredit_pos _ (by decide)

theorem credit_eq (i : Fin 8) (k : ℕ) (h : k < (chn i).n) : ((chn i).slot k h).view.dmaCredit = N := by
  fin_cases i <;> rfl

/-! ## Contents -/

/-- What the devices hold of the two operands. -/
structure Ops (F : FTy → Type) [FloatOps F] where
  a : Dev nD → (cc0_stg0_0 : Ref sig .tc).ty.Contents (Elt F)
  b : Dev nD → (cc0_stg1_0 : Ref sig .tc).ty.Contents (Elt F)

variable (D : Ops F)

/-- The rows of the chunk `k` places along the ring, in the first operand of device `c`. -/
def rowsOf (c : Dev nD) (k : ℕ) : FVec F S96x768 .f32 :=
  (Memref.whole cc0_stg0_0 : Memref sig .tc .vmem S1536x768 .f32).view.readAt (Elt F)
    (Rect.unit (s := S1536x768) (ofr c k) S96x768.size (ofr_inb c k)).toLoadRect (D.a c)

/-- Device `c`'s part of the chunk `k` places along the ring. -/
def pk (c : Dev nD) (k : ℕ) : FVec F S96x1536 .f32 := part (rowsOf D c k) (D.b c)

/-- The chunk a chain adds at its slot `k`, in places along the ring. -/
def idx (i : Fin 8) (k : ℕ) : ℕ :=
  if i.val % 2 = 0 then (if i.val < 4 then 8 else 7) - k else (if i.val < 4 then 8 else 9) + k

/-- What device `c` sends from slot `k` of a chain. -/
def sent (i : Fin 8) : ℕ → Dev nD → FVec F S96x384 .bf16
  | 0, c => first (chn i).lo (chn i).hlo (pk D c (idx i 0))
  | k + 1, c => next (chn i).lo (chn i).hlo (pk D c (idx i (k + 1))) (sent i k (src i c))

/-! ## The schedule -/

/-- Slot `k` of a chain on device `c`, at contents `v`; nothing where there is no such slot. -/
def slotP (i : Fin 8) (c : Dev nD) (k : ℕ) (v : FVec F S96x384 .bf16) : sProp 𝕄 :=
  if h : k < (chn i).n then slotO (chn i) c k h v else iprop(emp)

/-- Slot `k` at any contents. -/
def slotE (i : Fin 8) (c : Dev nD) (k : ℕ) : sProp 𝕄 := iprop(∃ v, slotP i c k v)

/-- All slots of a chain that copies land in. -/
def lands (i : Fin 8) (c : Dev nD) : sProp 𝕄 := bigSep (Finset.Ico 1 9) fun k => slotE (F := F) i c k

/-- What device `c` gets at its barrier: from the next device its landing slots of the forward chains, from the previous
    one those of the backward chains. -/
def barPay (c : Dev nD) (d : Bool) : sProp 𝕄 :=
  if d then iprop(lands 0 (nxt c) ∗ lands 2 (nxt c) ∗ lands 4 (nxt c) ∗ lands 6 (nxt c))
  else iprop(lands 1 (prv c) ∗ lands 3 (prv c) ∗ lands 5 (prv c) ∗ lands 7 (prv c))

/-- What a transfer's semaphore hands over: for sending the slot sent, for receiving the slot with what came. -/
def dmaPay (c : Dev nD) : Bool × Fin 8 × ℕ → sProp 𝕄
  | (false, i, k) => slotP i c k (sent D i k c)
  | (true, i, k) => slotP i c k (sent D i (k - 1) (src i c))

instance slotP_storable (i : Fin 8) (c : Dev nD) (k : ℕ) (v : FVec F S96x384 .bf16) :
    BI.Storable (upEmb : UEmb _ 𝕄) (slotP i c k v) := by unfold slotP; split <;> infer_instance
instance slotE_storable (i : Fin 8) (c : Dev nD) (k : ℕ) : BI.Storable (upEmb : UEmb _ 𝕄) (slotE (F := F) i c k) := by
  unfold slotE; infer_instance
instance lands_storable (i : Fin 8) (c : Dev nD) : BI.Storable (upEmb : UEmb _ 𝕄) (lands (F := F) i c) := by
  unfold lands; infer_instance
instance barPay_storable (c : Dev nD) (d : Bool) : BI.Storable (upEmb : UEmb _ 𝕄) (barPay (F := F) c d) := by
  unfold barPay; split <;> infer_instance
instance dmaPay_storable (c : Dev nD) (t : Bool × Fin 8 × ℕ) : BI.Storable (upEmb : UEmb _ 𝕄) (dmaPay D c t) := by
  obtain ⟨b, i, k⟩ := t; cases b <;> unfold dmaPay <;> infer_instance

/-- The duties of a semaphore's one round. -/
def duty0 : SemLoc sig → Finset Bool
  | .reg s => if s = barrier0 then Finset.univ else ∅
  | .dma j => match tag j with
    | some t => if live t then {false} else ∅
    | none => ∅

/-- What one of them adds. -/
def amount0 : SemLoc sig → ℕ
  | .reg _ => 1
  | .dma _ => N

/-- What one of them hands over. -/
def pay0 (c : Dev nD) (d : Bool) : SemLoc sig → sProp 𝕄
  | .reg _ => barPay c d
  | .dma j => match tag j with
    | some t => dmaPay D c t
    | none => iprop(emp)

instance pay0_storable (c : Dev nD) (d : Bool) (s : SemLoc sig) : BI.Storable (upEmb : UEmb _ 𝕄) (pay0 D c d s) := by
  cases s
  · unfold pay0; infer_instance
  · unfold pay0; dsimp only; split <;> infer_instance

/-- One round: the barrier takes one unit from each neighbour, a transfer's semaphore the credit of one copy. -/
def Rd : Rounds.Schedule (GSem nD τ sig) Bool 𝕄 where
  duties g r := if r = 0 ∧ g.1.2 = .tc then duty0 g.2 else ∅
  unitless _ := False
  amount g _ _ := amount0 g.2
  payload g _ d := pay0 D g.1.1 d g.2
  amount_pos g _ _ _ := by
    cases g.2
    · exact Nat.one_pos
    · exact N_pos

instance Rd_storable (g : GSem nD τ sig) (r : ℕ) (d : Bool) : BI.Storable (upEmb : UEmb _ 𝕄) ((Rd D).payload g r d) := by
  show BI.Storable upEmb (pay0 D g.1.1 d g.2); infer_instance

theorem duties_bar (c : Dev nD) : (Rd D).duties (barG c) 0 = Finset.univ := rfl
theorem duties_send (i : Fin 8) (k : ℕ) (h : k + 1 < (chn i).n) (c : Dev nD) :
    (Rd D).duties (sendG i k (by omega) c) 0 = {false} := by
  refine Eq.trans (b := duty0 (.dma ((chn i).semS k (by omega)))) (by dsimp only [Rd]; exact if_pos ⟨rfl, rfl⟩) ?_
  unfold duty0; dsimp only; rw [tag_semS]; exact if_pos h
theorem duties_recv (i : Fin 8) (k : ℕ) (h : k + 1 < (chn i).n) (c : Dev nD) :
    (Rd D).duties (recvG i (k + 1) h c) 0 = {false} := by
  refine Eq.trans (b := duty0 (.dma ((chn i).semR (k + 1) h))) (by dsimp only [Rd]; exact if_pos ⟨rfl, rfl⟩) ?_
  unfold duty0; dsimp only; rw [tag_semR]; exact if_pos (by unfold live; omega)
theorem duties_later (g : GSem nD τ sig) : ∀ r, 1 ≤ r → (Rd D).duties g r = ∅ :=
  fun r hr => if_neg fun h => by omega

theorem expect_bar (c : Dev nD) : (Rd D).expect (barG c) 0 = 2 := by
  unfold Schedule.expect Schedule.amountOf
  rw [duties_bar]; rfl
theorem expect_send (i : Fin 8) (k : ℕ) (h : k + 1 < (chn i).n) (c : Dev nD) : (Rd D).expect (sendG i k (by omega) c) 0 = N := by
  unfold Schedule.expect Schedule.amountOf; rw [duties_send D i k h, Finset.sum_singleton]; rfl
theorem expect_recv (i : Fin 8) (k : ℕ) (h : k + 1 < (chn i).n) (c : Dev nD) : (Rd D).expect (recvG i (k + 1) h c) 0 = N := by
  unfold Schedule.expect Schedule.amountOf; rw [duties_recv D i k h, Finset.sum_singleton]; rfl

theorem payload_send (i : Fin 8) (k : ℕ) (h : k < (chn i).n) (c : Dev nD) (d : Bool) :
    (Rd D).payload (sendG i k h c) 0 d = slotO (chn i) c k h (sent D i k c) := by
  show pay0 D c d (.dma ((chn i).semS k h)) = _
  unfold pay0; dsimp only; rw [tag_semS]; unfold dmaPay slotP; dsimp only; exact dif_pos h
theorem payload_recv (i : Fin 8) (k : ℕ) (h : k + 1 < (chn i).n) (c : Dev nD) (d : Bool) :
    (Rd D).payload (recvG i (k + 1) h c) 0 d = slotO (chn i) c (k + 1) h (sent D i k (src i c)) := by
  show pay0 D c d (.dma ((chn i).semR (k + 1) h)) = _
  unfold pay0; dsimp only; rw [tag_semR]; unfold dmaPay slotP; dsimp only; rw [dif_pos h]; rfl
theorem payload_bar (c : Dev nD) (d : Bool) : (Rd D).payload (barG c) 0 d = barPay c d := rfl

theorem rest_bar (c : Dev nD) : bigSep ((Rd D).duties (barG c) 0 \ ∅) (fun d => (Rd D).payload (barG c) 0 d)
    = iprop(barPay c false ∗ barPay c true) := by
  rw [Finset.sdiff_empty, duties_bar, bigSep_univ_eq_bigSepL [false, true] (by decide) (by decide), bigSepL_cons_cons, bigSepL_singleton]
  rfl
theorem rest_send (i : Fin 8) (k : ℕ) (h : k + 1 < (chn i).n) (c : Dev nD) :
    bigSep ((Rd D).duties (sendG i k (by omega) c) 0 \ ∅) (fun d => (Rd D).payload (sendG i k (by omega) c) 0 d)
      = slotO (chn i) c k (by omega) (sent D i k c) := by
  rw [Finset.sdiff_empty, duties_send D i k h, bigSep_singleton, payload_send]
theorem rest_recv (i : Fin 8) (k : ℕ) (h : k + 1 < (chn i).n) (c : Dev nD) :
    bigSep ((Rd D).duties (recvG i (k + 1) h c) 0 \ ∅) (fun d => (Rd D).payload (recvG i (k + 1) h c) 0 d)
      = slotO (chn i) c (k + 1) h (sent D i k (src i c)) := by
  rw [Finset.sdiff_empty, duties_recv D i k h, bigSep_singleton, payload_recv]

/-! ## What is owed, and the levels -/

/-- The chain of the copy number `x`: the copies go round the eight chains. -/
abbrev ich (x : ℕ) : Fin 8 := Fin.ofNat 8 x

/-- The semaphore that the copy from slot `k` of a chain of device `c` arrives at. -/
def arrG (c : Dev nD) (i : Fin 8) (k : ℕ) : GSem nD τ sig :=
  if h : k + 1 < (chn i).n then recvG i (k + 1) h (tgt i c) else barG c

/-- The same for the copy number `x`. -/
def dstG (c : Dev nD) (x : ℕ) : GSem nD τ sig := arrG c (ich x) (x / 8)

theorem dstG_at (c : Dev nD) (i : Fin 8) (k : ℕ) (h : k + 1 < (chn i).n) : dstG c (8 * k + i.val) = recvG i (k + 1) h (tgt i c) := by
  have e1 : ich (8 * k + i.val) = i := Fin.ext (show (8 * k + i.val) % 8 = i.val by omega)
  have e2 : (8 * k + i.val) / 8 = k := by omega
  unfold dstG; rw [e1, e2]; exact dif_pos h

/-- What is owed by the copies from number `m` on. -/
def Ow (c : Dev nD) (m : ℕ) : CellTallies nD τ sig Unit := (Finset.Ico m 60).sum fun x => tallyAt (dstG c x) () N

theorem Ow_succ (c : Dev nD) (m : ℕ) (h : m < 60) : Ow c m = Ow c (m + 1) + tallyAt (dstG c m) () N := by
  unfold Ow
  have e : Finset.Ico m 60 = insert m (Finset.Ico (m + 1) 60) := by ext x; simp only [Finset.mem_Ico, Finset.mem_insert]; omega
  rw [e, Finset.sum_insert (by simp), add_comm]

theorem Ow_end (c : Dev nD) : Ow c 60 = 0 := by unfold Ow; rw [Finset.Ico_self, Finset.sum_empty]

def O₁ (c : Dev nD) : CellTallies nD τ sig Unit := Ow c 0 + tallyAt (barG (prv c)) () 1
def O₀ (c : Dev nD) : CellTallies nD τ sig Unit := O₁ c + tallyAt (barG (nxt c)) () 1

def L (g : GSem nD τ sig) : Finset Unit := if g.1.2 = .tc then {()} else ∅

/-- The level of a semaphore: the barrier 1, what receives into slot `k` at `k + 1`, all else 0. -/
def lvs : SemLoc sig → ℕ
  | .reg _ => 1
  | .dma j => match tag j with
    | some (true, _, k) => k + 1
    | _ => 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem lvs_recv (i : Fin 8) (k : ℕ) (h : k < (chn i).n) : lvs (.dma ((chn i).semR k h)) = k + 1 := by
  unfold lvs; dsimp only; rw [tag_semR]
theorem lvs_send (i : Fin 8) (k : ℕ) (h : k < (chn i).n) : lvs (.dma ((chn i).semS k h)) = 0 := by
  unfold lvs; dsimp only; rw [tag_semS]

theorem dst_lt (x : ℕ) (h : x < 60) : x / 8 + 1 < (chn (ich x)).n := by
  rw [chn_n]; show _ < if x % 8 < 4 then 9 else 8
  split <;> omega

theorem dstG_eq (c : Dev nD) (x : ℕ) (h : x < 60) : dstG c x = recvG (ich x) (x / 8 + 1) (dst_lt x h) (tgt (ich x) c) := dif_pos _

theorem Ow_pos {c : Dev nD} {m : ℕ} {g : GSem nD τ sig} {u : Unit} (h : 0 < Ow c m g u) : ∃ x, m ≤ x ∧ x < 60 ∧ g = dstG c x := by
  unfold Ow at h
  rw [Finset.sum_apply, Finsupp.finset_sum_apply] at h
  obtain ⟨x, hx, hp⟩ := Finset.exists_ne_zero_of_sum_ne_zero (Nat.pos_iff_ne_zero.mp h)
  rw [tallyAt_apply] at hp
  refine ⟨x, (Finset.mem_Ico.mp hx).1, (Finset.mem_Ico.mp hx).2, ?_⟩
  by_contra hn
  exact hp (if_neg fun h' => hn h'.1)

theorem dstG_lv (c : Dev nD) (x : ℕ) (h : x < 60) : lvs (dstG c x).2 = x / 8 + 2 := by
  rw [dstG_eq c x h]; exact lvs_recv _ _ _

theorem dstG_L (c : Dev nD) (x : ℕ) (h : x < 60) : () ∈ L (dstG c x) := by
  rw [dstG_eq c x h, L_tc]; exact Finset.mem_singleton_self _

/-- A device may wait on a semaphore below everything it still owes. -/
theorem mayWait_Ow (c : Dev nD) (sm : SemLoc sig) (m : ℕ) (hl : lvs sm < m / 8 + 2) :
    (levAts L lv : sProp 𝕄) ⊢ MayWait (c : Thread nD τ) sm () (Ow c m) :=
  MayOwe.of_cut (L := L) (lev := lv) (lvs sm) (fun p hp => by rw [Finset.mem_singleton.mp hp, L_tc]; exact Finset.mem_singleton_self _)
    (fun g u hg => by obtain ⟨x, -, hx, rfl⟩ := Ow_pos hg; exact dstG_L c x hx)
    (fun p hp => by rw [Finset.mem_singleton.mp hp]; exact Nat.le_refl _)
    (fun g u hg => by
      obtain ⟨x, hm, hx, rfl⟩ := Ow_pos hg
      show lvs sm < lvs (dstG c x).2
      rw [dstG_lv c x hx]; have := Nat.div_le_div_right (c := 8) hm; omega)

theorem pos_of_add {A B : CellTallies nD τ sig Unit} {g : GSem nD τ sig} {u : Unit} (h : 0 < (A + B) g u) : 0 < A g u ∨ 0 < B g u := by
  rw [Pi.add_apply, Finsupp.add_apply] at h; omega

theorem eq_of_tally {a g : GSem nD τ sig} {u : Unit} {n : ℕ} (h : 0 < tallyAt a () n g u) : g = a := by
  rw [tallyAt_apply] at h
  by_contra hn
  rw [if_neg (fun h' => hn h'.1)] at h
  exact Nat.lt_irrefl 0 h

theorem O₀_pos {c : Dev nD} {g : GSem nD τ sig} {u : Unit} (h : 0 < O₀ c g u) :
    (∃ x, x < 60 ∧ g = dstG c x) ∨ g = barG (prv c) ∨ g = barG (nxt c) := by
  rcases pos_of_add h with h | h
  · rcases pos_of_add h with h | h
    · obtain ⟨x, -, hx, e⟩ := Ow_pos h
      exact .inl ⟨x, hx, e⟩
    · exact .inr (.inl (eq_of_tally h))
  · exact .inr (.inr (eq_of_tally h))

/-- A device may wait on a semaphore of level 0 before it has done anything, and at the end. -/
theorem mayWait_stage (c : Dev nD) (q : SemLoc sig) (hq : lvs q = 0) (O : CellTallies nD τ sig Unit) (hO : O = O₀ c ∨ O = 0) :
    (levAts L lv : sProp 𝕄) ⊢ MayWait (c : Thread nD τ) q () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact hq.le) (fun g u hg => ?_)
    · rcases O₀_pos hg with ⟨x, hx, rfl⟩ | rfl | rfl
      · exact dstG_L c x hx
      · exact Finset.mem_singleton_self _
      · exact Finset.mem_singleton_self _
    · show 0 < lvs g.2
      rcases O₀_pos hg with ⟨x, hx, rfl⟩ | rfl | rfl
      · rw [dstG_lv c x hx]; omega
      · exact Nat.one_pos
      · exact Nat.one_pos
  · rw [MayWait_zero]; iintro -; iempintro

end Cert.RingProof
end
-- ==== Proof.Steps.lean ====
module

public import proofs.«01_k».proof.Proof.Proto

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and their invariants -/

/-- The transfers' semaphores of the kernel. -/
abbrev osem : Fin 136 → SemLoc sig := fun j => .dma (⟨j.val + 3, by have := j.isLt; show _ < 139; omega⟩ : Fin 139)

/-- All of the kernel's semaphores: the barrier first. -/
abbrev csem : Fin 137 → SemLoc sig := Fin.cases (.reg barrier0) osem
abbrev kcell (ck : Dev nD × Fin 137) : GSem nD τ sig := ((ck.1 : Thread nD τ), csem ck.2)

/-- Which of them a semaphore is. -/
def kix : SemLoc sig → Fin 137
  | .reg _ => 0
  | .dma j => if h : 3 ≤ j.val then (⟨j.val - 3, by have : j.val < 139 := j.isLt; omega⟩ : Fin 136).succ else 0

theorem csem_kix_dma (j : DmaSem sig) (h : tag j ≠ none) : csem (kix (.dma j)) = .dma j := by
  have h3 : 3 ≤ j.val := by
    by_contra hn; exact h (by unfold tag; exact if_pos (by omega))
  unfold kix; dsimp only; rw [dif_pos h3]
  show SemLoc.dma _ = _
  congr 1; exact Fin.ext (by show j.val - 3 + 3 = j.val; omega)

variable (D : Ops F) (K : Dev nD × Fin 137 → ℕ)

/-- Every cell's invariant, and that every cell is in its first round. -/
def recs : sProp 𝕄 :=
  bigSep Finset.univ fun ck => iprop(cellInv ER (Rd D) (K ck) (kcell ck) ∗ reached ER (kcell ck) 0)

instance recs_persistent : BI.Persistent (recs D K) := by unfold recs; infer_instance

/-- One cell's. -/
theorem rec_at (ck : Dev nD × Fin 137) : recs D K ⊢ iprop(cellInv ER (Rd D) (K ck) (kcell ck) ∗ reached ER (kcell ck) 0) := by
  unfold recs; rw [BI.bigSep_erase (Finset.mem_univ ck)]; exact sep_elim_left

theorem rec_send (i : Fin 8) (k : ℕ) (h : k < (chn i).n) (c : Dev nD) :
    recs D K ⊢ iprop(cellInv ER (Rd D) (K (c, kix (.dma ((chn i).semS k h)))) (sendG i k h c) ∗ reached ER (sendG i k h c) 0) := by
  have e := csem_kix_dma ((chn i).semS k h) (by rw [tag_semS]; exact Option.some_ne_none _)
  have := rec_at D K (c, kix (.dma ((chn i).semS k h)))
  unfold kcell at this; dsimp only at this; rwa [e] at this
theorem rec_recv (i : Fin 8) (k : ℕ) (h : k < (chn i).n) (c : Dev nD) :
    recs D K ⊢ iprop(cellInv ER (Rd D) (K (c, kix (.dma ((chn i).semR k h)))) (recvG i k h c) ∗ reached ER (recvG i k h c) 0) := by
  have e := csem_kix_dma ((chn i).semR k h) (by rw [tag_semR]; exact Option.some_ne_none _)
  have := rec_at D K (c, kix (.dma ((chn i).semR k h)))
  unfold kcell at this; dsimp only at this; rwa [e] at this
theorem rec_bar (c : Dev nD) : recs D K ⊢ iprop(cellInv ER (Rd D) (K (c, 0)) (barG c) ∗ reached ER (barG c) 0) :=
  rec_at D K (c, 0)

/-! ## A chain's state -/

/-- What device `c` owes, having waited on whatever it has. -/
def ow (c : Dev nD) (O : CellTallies nD τ sig Unit) : sProp 𝕄 := iprop(∃ W, owes (c : Thread nD τ) O W)

/-- What sending slot `k` of a chain and waiting for it takes. -/
def fut (i : Fin 8) (c : Dev nD) (k : ℕ) : sProp 𝕄 :=
  if h : k + 1 < (chn i).n then
    iprop(dutyTok ER (sendG i k (by omega) c) 0 false ∗ dutyTok ER (recvG i (k + 1) h (tgt i c)) 0 false
      ∗ atPos ER (sendG i k (by omega) c) 0 ∅ 0 ∗ atPos ER (recvG i (k + 1) h c) 0 ∅ 0 ∗ cred (tallyAt (recvG i (k + 1) h c) () N))
  else iprop(emp)

/-- Slot `k` is sent, and neither this copy nor the one into slot `k + 1` waited for. -/
def pend (i : Fin 8) (c : Dev nD) (k : ℕ) (h : k + 1 < (chn i).n) : sProp 𝕄 :=
  iprop(atPos ER (sendG i k (by omega) c) 0 ∅ 0 ∗ atPos ER (recvG i (k + 1) h c) 0 ∅ 0
    ∗ cred (tallyAt (sendG i k (by omega) c) () N) ∗ cred (tallyAt (recvG i (k + 1) h c) () N))

/-- Both waited for: the slot sent is here again, both semaphores are through their round. -/
def over (i : Fin 8) (c : Dev nD) (k : ℕ) : sProp 𝕄 :=
  if h : k + 1 < (chn i).n then
    iprop(slotO (chn i) c k (by omega) (sent D i k c) ∗ atPos ER (sendG i k (by omega) c) (0 + 1) ∅ 0
      ∗ atPos ER (recvG i (k + 1) h c) (0 + 1) ∅ 0)
  else iprop(emp)

/-- A chain that has sent its slots up to `k` and waited for those before `k`. -/
def St (i : Fin 8) (c : Dev nD) (k : ℕ) (h : k + 1 < (chn i).n) : sProp 𝕄 :=
  iprop(pend i c k h ∗ bigSep (Finset.Ico (k + 1) 8) (fun j => fut i c j) ∗ bigSep (Finset.Ico (k + 2) 9) (fun j => slotE (F := F) i (tgt i c) j)
    ∗ bigSep (Finset.range k) (fun j => over D i c j))

/-- A chain that is through: all its slots are here, the last holding what came. -/
def Fi (i : Fin 8) (c : Dev nD) (k : ℕ) (h : k + 1 < (chn i).n) : sProp 𝕄 :=
  iprop(slotO (chn i) c (k + 1) h (sent D i k (src i c)) ∗ bigSep (Finset.range (k + 1)) (fun j => over D i c j))

theorem Ico_take {P : ℕ → sProp 𝕄} {a b : ℕ} (h : a < b) : bigSep (Finset.Ico a b) P = iprop(P a ∗ bigSep (Finset.Ico (a + 1) b) P) := by
  have e : Finset.Ico a b = insert a (Finset.Ico (a + 1) b) := by ext x; simp only [Finset.mem_Ico, Finset.mem_insert]; omega
  rw [e, BI.bigSep_insert (by simp)]; rfl

theorem range_put {P : ℕ → sProp 𝕄} (a : ℕ) : bigSep (Finset.range (a + 1)) P = iprop(P a ∗ bigSep (Finset.range a) P) := by
  rw [Finset.range_add_one, BI.bigSep_insert (by simp)]; rfl

/-! ## Sending and waiting -/

/-- What a copy leaves in the slot it lands in is what the slot sent held. -/
theorem landed_eq (i : Fin 8) (c : Dev nD) (k : ℕ) (h : k + 1 < (chn i).n) (v : FVec F S96x384 .bf16)
    (fs : Buf (Elt F) (((chn i).slot k (by omega)).view.loc (c : Thread nD τ)))
    (hf : ((chn i).slot k (by omega)).view.read (Elt F) fs = v)
    (fd : Buf (Elt F) (((chn i).slot (k + 1) h).view.loc (tgt i c : Thread nD τ))) :
    (((chn i).slot (k + 1) h).view.loc (tgt i c : Thread nD τ) ↦[((chn i).slot (k + 1) h).view.set]{fullShare}
      ((chn i).slot (k + 1) h).view.write (Elt F) fd (((chn i).slot k (by omega)).view.read (Elt F) fs) Finset.univ : sProp 𝕄)
      ⊢ slotO (chn i) (tgt i c) (k + 1) h v := by
  unfold slotO owns
  iintro H
  iexists _; isplitr
  rotate_left
  · iexact H
  · ipureintro; exact (View.read_write_univ _ _).trans hf

/-- Sending slot `k` to the chain's target. -/
theorem wp_sendSlot (i : Fin 8) (c : Dev nD) (k : ℕ) (h : k + 1 < (chn i).n) (hm : 8 * k + i.val < 60) (Kt : PU F) (Q : PUnit → sProp 𝕄) :
    iprop(recs D K ∗ slotO (chn i) c k (by omega) (sent D i k c) ∗ fut i c k ∗ slotE (F := F) i (tgt i c) (k + 1) ∗ ow c (Ow c (8 * k + i.val)))
      ⊢ iprop(((pend i c k h ∗ ow c (Ow c (8 * k + i.val + 1))) -∗ runs c Kt Q) -∗ runs c (sendSlot (chn i) k h (tgt i c) Kt) Q) := by
  have hk : k < (chn i).n := by omega
  unfold fut ow slotE slotP sendSlot
  rw [dif_pos h]
  simp only [dif_pos h]
  iintro ⟨#HR, Hs, ⟨HtS, HtR, HaS, HaR, HcR⟩, ⟨%vd, Hd⟩, ⟨%W, HO⟩⟩ Hk
  ihave #⟨HIs, Hrs⟩ := (rec_send D K i k hk c) $$ HR
  ihave #⟨HIr, Hrr⟩ := (rec_recv D K i (k + 1) h (tgt i c)) $$ HR
  unfold slotO owns
  icases Hs with ⟨%fs, %hfs, Hs⟩
  icases Hd with ⟨%fd, %hfd, Hd⟩
  iapply (Rounds.wp_send_pointsTo 𝒱₀ ER (Rd D) (c : Thread nD τ) none (c' := (tgt i c : Thread nD τ))
    (src := (chn i).slot k hk) (dst := (chn i).slot (k + 1) h) (sS := .dma ((chn i).semS k hk)) (sem := .dma ((chn i).semR (k + 1) h))
    (κ₁ := K (c, kix (.dma ((chn i).semS k hk))))
    (κ₂ := K (tgt i c, kix (.dma ((chn i).semR (k + 1) h))))
    (r₁ := 0) (r₂ := 0) (d₁ := false) (d₂ := false) (fs := fs) (fd := fd)
    (by rw [duties_send D i k h]; exact Finset.mem_singleton_self _) (by rw [duties_recv D i k h]; exact Finset.mem_singleton_self _)
    () () N (credit_eq i (k + 1) h) rfl rfl (O₀ := Ow c (8 * k + i.val)) (Ow c (8 * k + i.val + 1)) (by rw [Ow_succ c _ hm, dstG_at c i k h]) (W := W)
    (by rw [payload_send]; unfold slotO owns; iintro H; iexists fs; isplitr; · (ipureintro; exact hfs)
        iexact H)
    (by rw [payload_recv]; rw [src_tgt]; exact landed_eq i c k h _ fs hfs fd)) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact Hrs
    isplitl [HtR]; · iexact HtR
    iexact Hrr
  iintro ⟨HcS, HO⟩
  iapply Hk
  unfold pend
  isplitr [HO]
  · isplitl [HaS]; · iexact HaS
    isplitl [HaR]; · iexact HaR
    isplitl [HcS]; · iexact HcS
    iexact HcR
  iexists W; iexact HO

/-- A device may wait on a semaphore of a chain's slot `k + 1` once it has sent all of the slots before, or nothing is left to send. -/
theorem mayWait_slot (c : Dev nD) (sm : SemLoc sig) (k m : ℕ) (hl : lvs sm ≤ k + 2) (hm : k < m / 8 ∨ m = 60) :
    (levAts L lv : sProp 𝕄) ⊢ MayWait (c : Thread nD τ) sm () (Ow c m) := by
  rcases hm with hm | rfl
  · exact mayWait_Ow c sm m (by omega)
  · rw [Ow_end, MayWait_zero]; iintro -; iempintro

/-- Waiting for the copy of slot `k` and the one into slot `k + 1`. -/
theorem wp_waitSlot (i : Fin 8) (c : Dev nD) (k : ℕ) (h : k + 1 < (chn i).n) (m : ℕ) (hm : k < m / 8 ∨ m = 60) (Kt : PU F)
    (Q : PUnit → sProp 𝕄) :
    iprop(recs D K ∗ levAts L lv ∗ pend i c k h ∗ ow c (Ow c m))
      ⊢ iprop(((over D i c k ∗ slotO (chn i) c (k + 1) h (sent D i k (src i c)) ∗ ow c (Ow c m)) -∗ runs c Kt Q)
        -∗ runs c (waitSlot (chn i) k h Kt) Q) := by
  have hk : k < (chn i).n := by omega
  unfold pend ow waitSlot over
  rw [dif_pos h]
  iintro ⟨#HR, #Hl, ⟨HaS, HaR, HcS, HcR⟩, ⟨%W, HO⟩⟩ Hk
  ihave #⟨HIs, Hrs⟩ := (rec_send D K i k hk c) $$ HR
  ihave #⟨HIr, Hrr⟩ := (rec_recv D K i (k + 1) h c) $$ HR
  iapply (Rounds.wp_wait_rest_token 𝒱₀ ER (Rd D) (c : Thread nD τ) none (κ := K (c, kix (.dma ((chn i).semS k hk))))
      (wpE_waitDma2_eq 𝒱₀ (c : Thread nD τ) none Set.univ) (Set.mem_univ _) () (O := Ow c m) (W := W) (R := 0) (m := 0) (T := ∅)
      ((Nat.zero_add _).trans ((credit_eq i k hk).trans (expect_send D i k h c).symm))) $$ [HcS HO HaS]
  · isplitr; · iexact HIs
    isplitl [HcS]
    · ihave Hc := (Entails.of_eq (congrArg (fun n => (cred (tallyAt (sendG i k hk c) () n) : sProp 𝕄)) (credit_eq i k hk).symm)) $$ HcS
      iexact Hc
    isplitl [HO]; · iexact HO
    isplitr
    · iapply (mayWait_slot c _ k m (by rw [lvs_send]; omega) hm); iexact Hl
    iexact HaS
  iintro ⟨HO, HaS, -, Hp⟩
  ihave Hs := (Entails.of_eq (rest_send D i k h c)) $$ Hp
  iapply (Rounds.wp_wait_rest_token 𝒱₀ ER (Rd D) (c : Thread nD τ) none (κ := K (c, kix (.dma ((chn i).semR (k + 1) h))))
      (wpE_waitDma2_eq 𝒱₀ (c : Thread nD τ) none Set.univ) (Set.mem_univ _) () (O := Ow c m)
      (W := insert (SemLoc.dma ((chn i).semS k hk), ()) W) (R := 0) (m := 0) (T := ∅)
      ((Nat.zero_add _).trans ((credit_eq i (k + 1) _).trans (expect_recv D i k h c).symm))) $$ [HcR HO HaR]
  · isplitr; · iexact HIr
    isplitl [HcR]
    · ihave Hc := (Entails.of_eq (congrArg (fun n => (cred (tallyAt (recvG i (k + 1) h c) () n) : sProp 𝕄)) (credit_eq i (k + 1) h).symm)) $$ HcR
      iexact Hc
    isplitl [HO]; · iexact HO
    isplitr
    · iapply (mayWait_slot c _ k m (by rw [lvs_recv]) hm); iexact Hl
    iexact HaR
  iintro ⟨HO, HaR, -, Hp⟩
  ihave Hr := (Entails.of_eq (rest_recv D i k h c)) $$ Hp
  iapply Hk
  isplitl [Hs HaS HaR]
  · isplitl [Hs]; · iexact Hs
    isplitl [HaS]; · iexact HaS
    iexact HaR
  isplitl [Hr]; · iexact Hr
  iexists _; iexact HO

end Cert.RingProof
end
-- ==== Proof.Hops.lean ====
module

public import proofs.«01_k».proof.Proof.Steps
public import Idealize.ShloMosaic.Lib.Writes

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Ops F) (K : Dev nD × Fin 137 → ℕ)

/-! ## Steps of the chains -/

theorem lt60 {i : Fin 8} {k : ℕ} (h : k + 1 < (chn i).n) : 8 * k + i.val < 60 := by
  have := chn_n i; have := i.isLt; split at * <;> omega

/-- The first send of a chain. -/
theorem wp_start (i : Fin 8) (c : Dev nD) (h : 0 + 1 < (chn i).n) (Kt : PU F) (Q : PUnit → sProp 𝕄) :
    iprop(recs D K ∗ slotO (chn i) c 0 (by omega) (sent D i 0 c) ∗ bigSep (Finset.Ico 0 8) (fun j => fut i c j) ∗ lands (F := F) i (tgt i c)
        ∗ ow c (Ow c i.val))
      ⊢ iprop(((St D i c 0 h ∗ ow c (Ow c (i.val + 1))) -∗ runs c Kt Q) -∗ runs c (sendSlot (chn i) 0 h (tgt i c) Kt) Q) := by
  unfold lands
  rw [Ico_take (a := 0) (b := 8) (by decide), Ico_take (a := 0 + 1) (b := 9) (by decide)]
  iintro ⟨#HR, Hs, ⟨Hf, Hfs⟩, ⟨Hd, Hds⟩, HO⟩ Hk
  have e : 8 * 0 + i.val = i.val := by omega
  iapply (wp_sendSlot D K i c 0 h (lt60 h) Kt Q) $$ [Hs Hf Hd HO]
  · isplitr; · iexact HR
    isplitl [Hs]; · iexact Hs
    isplitl [Hf]; · iexact Hf
    isplitl [Hd]; · iexact Hd
    rw [e]; iexact HO
  iintro ⟨Hp, HO⟩
  iapply Hk
  unfold St
  isplitr [HO]
  · isplitl [Hp]; · iexact Hp
    isplitl [Hfs]; · iexact Hfs
    isplitl [Hds]; · iexact Hds
    rw [Finset.range_zero, BI.bigSep_empty]; iempintro
  iapply (Entails.of_eq (congrArg (fun n => (ow c (Ow c (n + 1)) : sProp 𝕄)) e)); iexact HO

/-- One step of a chain. -/
theorem wp_hop (i : Fin 8) (c : Dev nD) (k : ℕ) (h : k + 2 < (chn i).n) (m : ℕ) (hm : m = 8 * (k + 1) + i.val) (p : FVec F S96x1536 .f32)
    (hp : p = pk D c (idx i (k + 1))) (Kt : PU F) (Q : PUnit → sProp 𝕄) :
    iprop(recs D K ∗ levAts L lv ∗ St D i c k (by omega) ∗ ow c (Ow c m))
      ⊢ iprop(((St D i c (k + 1) h ∗ ow c (Ow c (m + 1))) -∗ runs c Kt Q) -∗ runs c (hop (chn i) k h p (tgt i c) Kt) Q) := by
  have h8 : k + 1 < 8 := by have := lt_nine (i := i) h; omega
  have h9 : k + 2 < 9 := lt_nine (i := i) h
  have h1 : k + 1 < (chn i).n := by omega
  subst hm hp
  unfold St hop
  rw [Ico_take (a := k + 1) (b := 8) h8, Ico_take (a := k + 2) (b := 9) h9, range_put k]
  iintro ⟨#HR, #Hl, ⟨Hp, ⟨Hf, Hfs⟩, ⟨Hd, Hds⟩, Hov⟩, HO⟩ Hk
  iapply (wp_waitSlot D K i c k h1 (8 * (k + 1) + i.val) (Or.inl (by omega)) _ Q) $$ [Hp HO]
  · isplitr; · iexact HR
    isplitr; · iexact Hl
    isplitl [Hp]; · iexact Hp
    iexact HO
  iintro ⟨Ho, Hs, HO⟩
  iapply (wp_loadSlot (chn i) c (k + 1) h1 _ _ Q) $$ Hs; iintro Hs
  iapply (wp_loadSlot (chn i) c (k + 1) h1 _ _ Q) $$ Hs; iintro Hs
  iapply (wp_storeSlot (chn i) c (k + 1) h1 _ _ _ Q) $$ Hs; iintro Hs
  rw [ofSlot_toSlot]
  iapply (wp_sendSlot D K i c (k + 1) h (lt60 h) Kt Q) $$ [Hs Hf Hd HO]
  · isplitr; · iexact HR
    isplitl [Hs]; · iexact Hs
    isplitl [Hf]; · iexact Hf
    isplitl [Hd]; · iexact Hd
    iexact HO
  iintro ⟨Hp, HO⟩
  iapply Hk
  isplitr [HO]
  · isplitl [Hp]; · iexact Hp
    isplitl [Hfs]; · iexact Hfs
    isplitl [Hds]; · iexact Hds
    isplitl [Ho]; · iexact Ho
    iexact Hov
  iexact HO

/-- A chain's last wait. -/
theorem wp_last (i : Fin 8) (c : Dev nD) (k : ℕ) (h : k + 1 < (chn i).n) (Kt : PU F) (Q : PUnit → sProp 𝕄) :
    iprop(recs D K ∗ levAts L lv ∗ St D i c k h ∗ ow c (Ow c 60))
      ⊢ iprop(((Fi D i c k h ∗ ow c (Ow c 60)) -∗ runs c Kt Q) -∗ runs c (waitSlot (chn i) k h Kt) Q) := by
  unfold St Fi
  rw [range_put k]
  iintro ⟨#HR, #Hl, ⟨Hp, -, -, Hov⟩, HO⟩ Hk
  iapply (wp_waitSlot D K i c k h 60 (Or.inr rfl) _ Q) $$ [Hp HO]
  · isplitr; · iexact HR
    isplitr; · iexact Hl
    isplitl [Hp]; · iexact Hp
    iexact HO
  iintro ⟨Ho, Hs, HO⟩
  iapply Hk
  isplitr [HO]
  · isplitl [Hs]; · iexact Hs
    isplitl [Ho]; · iexact Ho
    iexact Hov
  iexact HO

/-- The first and the last four chains, each having sent its slots up to `s`. -/
def StA (c : Dev nD) (s : ℕ) (h : s + 1 < 9) : sProp 𝕄 := iprop(St D 0 c s h ∗ St D 1 c s h ∗ St D 2 c s h ∗ St D 3 c s h)
def StB (c : Dev nD) (s : ℕ) (h : s + 1 < 8) : sProp 𝕄 := iprop(St D 4 c s h ∗ St D 5 c s h ∗ St D 6 c s h ∗ St D 7 c s h)

/-- A step of the first four chains. -/
theorem wp_hopsA (c : Dev nD) (s : ℕ) (h : s + 2 < 9) (p q : FVec F S96x1536 .f32) (hp : p = pk D c (8 - (s + 1))) (hq : q = pk D c (8 + (s + 1)))
    (m : ℕ) (hm : m = 8 * (s + 1)) (Kt : PU F) (Q : PUnit → sProp 𝕄) :
    iprop(recs D K ∗ levAts L lv ∗ StA D c s (by omega) ∗ ow c (Ow c m))
      ⊢ iprop(((StA D c (s + 1) h ∗ ow c (Ow c (m + 4))) -∗ runs c Kt Q)
        -∗ runs c (hopsA s h p q (nxt c) (prv c) (nxt c) (prv c) Kt) Q) := by
  unfold StA hopsA
  iintro ⟨#HR, #Hl, ⟨H0, H1, H2, H3⟩, HO⟩ Hk
  iapply (wp_hop D K 0 c s h m (by show m = _ + 0; omega) p hp _ Q) $$ [H0 HO]
  · isplitr; · iexact HR
    isplitr; · iexact Hl
    isplitl [H0]; · iexact H0
    iexact HO
  iintro ⟨H0, HO⟩
  iapply (wp_hop D K 1 c s h (m + 1) (by show m + 1 = _ + 1; omega) q hq _ Q) $$ [H1 HO]
  · isplitr; · iexact HR
    isplitr; · iexact Hl
    isplitl [H1]; · iexact H1
    iexact HO
  iintro ⟨H1, HO⟩
  iapply (wp_hop D K 2 c s h (m + 2) (by show m + 2 = _ + 2; omega) p hp _ Q) $$ [H2 HO]
  · isplitr; · iexact HR
    isplitr; · iexact Hl
    isplitl [H2]; · iexact H2
    iexact HO
  iintro ⟨H2, HO⟩
  iapply (wp_hop D K 3 c s h (m + 3) (by show m + 3 = _ + 3; omega) q hq _ Q) $$ [H3 HO]
  · isplitr; · iexact HR
    isplitr; · iexact Hl
    isplitl [H3]; · iexact H3
    iexact HO
  iintro ⟨H3, HO⟩
  iapply Hk
  isplitr [HO]
  · isplitl [H0]; · iexact H0
    isplitl [H1]; · iexact H1
    isplitl [H2]; · iexact H2
    iexact H3
  iexact HO

/-- A step of the last four chains. -/
theorem wp_hopsB (c : Dev nD) (s : ℕ) (h : s + 2 < 8) (p q : FVec F S96x1536 .f32) (hp : p = pk D c (7 - (s + 1))) (hq : q = pk D c (9 + (s + 1)))
    (m : ℕ) (hm : m = 8 * (s + 1) + 4) (Kt : PU F) (Q : PUnit → sProp 𝕄) :
    iprop(recs D K ∗ levAts L lv ∗ StB D c s (by omega) ∗ ow c (Ow c m))
      ⊢ iprop(((StB D c (s + 1) h ∗ ow c (Ow c (m + 4))) -∗ runs c Kt Q)
        -∗ runs c (hopsB s h p q (nxt c) (prv c) (nxt c) (prv c) Kt) Q) := by
  unfold StB hopsB
  iintro ⟨#HR, #Hl, ⟨H0, H1, H2, H3⟩, HO⟩ Hk
  iapply (wp_hop D K 4 c s h m (by show m = _ + 4; omega) p hp _ Q) $$ [H0 HO]
  · isplitr; · iexact HR
    isplitr; · iexact Hl
    isplitl [H0]; · iexact H0
    iexact HO
  iintro ⟨H0, HO⟩
  iapply (wp_hop D K 5 c s h (m + 1) (by show m + 1 = _ + 5; omega) q hq _ Q) $$ [H1 HO]
  · isplitr; · iexact HR
    isplitr; · iexact Hl
    isplitl [H1]; · iexact H1
    iexact HO
  iintro ⟨H1, HO⟩
  iapply (wp_hop D K 6 c s h (m + 2) (by show m + 2 = _ + 6; omega) p hp _ Q) $$ [H2 HO]
  · isplitr; · iexact HR
    isplitr; · iexact Hl
    isplitl [H2]; · iexact H2
    iexact HO
  iintro ⟨H2, HO⟩
  iapply (wp_hop D K 7 c s h (m + 3) (by show m + 3 = _ + 7; omega) q hq _ Q) $$ [H3 HO]
  · isplitr; · iexact HR
    isplitr; · iexact Hl
    isplitl [H3]; · iexact H3
    iexact HO
  iintro ⟨H3, HO⟩
  iapply Hk
  isplitr [HO]
  · isplitl [H0]; · iexact H0
    isplitl [H1]; · iexact H1
    isplitl [H2]; · iexact H2
    iexact H3
  iexact HO

/-! ## The operands and the result -/

abbrev aM : Memref sig .tc .vmem S1536x768 .f32 := Memref.whole cc0_stg0_0
abbrev bM : Memref sig .tc .vmem S768x1536 .f32 := Memref.whole cc0_stg1_0
abbrev oM : Memref sig .tc .vmem S96x1536 .f32 := Memref.whole cc0_stg2_0

/-- Device `c` holds its two operands. -/
def opsP (c : Dev nD) : sProp 𝕄 :=
  iprop((((c : Thread nD τ).loc cc0_stg0_0) ↦{fullShare} D.a c) ∗ (((c : Thread nD τ).loc cc0_stg1_0) ↦{fullShare} D.b c))

theorem hz : (![0, 0] : Fin 2 → Nat) = fun _ => 0 := funext fun a => by fin_cases a <;> rfl

theorem read_b (f : (cc0_stg1_0 : Ref sig .tc).ty.Contents (Elt F)) :
    bM.view.readAt (Elt F) (Rect.unit (s := S768x1536) ![0, 0] S768x1536.size inb_S768x1536_S768x1536_0_0).toLoadRect f = f :=
  Memref.readAt_unit_zero (Elt F) cc0_stg1_0 hz _ f

/-- Loading a part gives it. -/
theorem wp_loadPart (c : Dev nD) (k : ℕ) (Kt : FVec F S96x1536 .f32 → PU F) (Q : PUnit → sProp 𝕄) :
    opsP D c ⊢ iprop((opsP D c -∗ runs c (Kt (pk D c k)) Q) -∗ runs c (loadPart aM bM (ofr c k) (ofr_inb c k) Kt) Q) := by
  unfold opsP loadPart
  iintro ⟨Ha, Hb⟩ Hk
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  rw [read_b]
  iapply Hk
  isplitl [Ha]; · iexact Ha
  iexact Hb

/-- Filling slot 0 of a chain. -/
theorem wp_fillSlot (i : Fin 8) (c : Dev nD) (h : 0 < (chn i).n) (p : FVec F S96x1536 .f32) (hp : p = pk D c (idx i 0)) (Kt : PU F)
    (Q : PUnit → sProp 𝕄) :
    slotE i c 0 ⊢ iprop((slotO (chn i) c 0 h (sent D i 0 c) -∗ runs c Kt Q) -∗ runs c (fillSlot (chn i) h p Kt) Q) := by
  subst hp
  unfold slotE slotP fillSlot
  simp only [dif_pos h]
  iintro ⟨%v, Hs⟩ Hk
  iapply (wp_loadSlot (chn i) c 0 h _ _ Q) $$ Hs; iintro Hs
  iapply (wp_storeSlot (chn i) c 0 h _ _ _ Q) $$ Hs; iintro Hs
  iapply Hk; iexact Hs

/-- Device `c` holds the result's staging buffer, at contents `f`. -/
def outP (c : Dev nD) (f : (cc0_stg2_0 : Ref sig .tc).ty.Contents (Elt F)) : sProp 𝕄 :=
  iprop(((c : Thread nD τ).loc cc0_stg2_0) ↦{fullShare} f)

/-- Bringing two chains together writes their columns of the result. -/
theorem wp_finish (X Y : Chain) (c : Dev nD) (k l : ℕ) (hk : k < X.n) (hl : l < Y.n)
    (h : ∀ a, (![0, X.lo] : Fin 2 → ℕ) a + S96x384.size a ≤ S96x1536.size a)
    (hlo : S96x1536.Slices ![0, X.lo] S96x384) (p : FVec F S96x1536 .f32) (u v : FVec F S96x384 .bf16)
    (L : List (View.Piece (Elt F) S96x1536 .f32))
    (f : (cc0_stg2_0 : Ref sig .tc).ty.Contents (Elt F)) (Kt : PU F) (Q : PUnit → sProp 𝕄) :
    iprop(slotO X c k hk u ∗ slotO Y c l hl v ∗ outP c (oM.view.writes (Elt F) f L))
      ⊢ iprop(((slotO X c k hk u ∗ slotO Y c l hl v
          ∗ outP c (oM.view.writes (Elt F) f (⟨Rect.unit (s := S96x1536) ![0, X.lo] S96x384.size h, final X.lo hlo p u v⟩ :: L)))
          -∗ runs c Kt Q)
        -∗ runs c (finish oM X Y k l hk hl h hlo p Kt) Q) := by
  unfold outP finish
  iintro ⟨HX, HY, Ho⟩ Hk
  iapply (wp_loadSlot X c k hk _ _ Q) $$ HX; iintro HX
  iapply (wp_loadSlot Y c l hl _ _ Q) $$ HY; iintro HY
  iapply (wp_load 𝒱₀ (c : Thread nD τ) none Set.univ (m := oM) (Finset.subset_univ _)) $$ Ho; iintro Ho
  iapply (wp_store 𝒱₀ (c : Thread nD τ) none Set.univ (m := oM) (r := Rect.unit (s := S96x1536) ![0, X.lo] S96x384.size h) (Mk := Finset.univ)
    (Finset.subset_univ _)) $$ Ho; iintro Ho
  rw [ofSlot_toSlot, ofSlot_toSlot]
  iapply Hk
  isplitl [HX]; · iexact HX
  isplitl [HY]; · iexact HY
  iexact Ho

end Cert.RingProof
end
-- ==== Proof.Run.lean ====
module

public import proofs.«01_k».proof.Proof.Hops

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Ops F) (K : Dev nD × Fin 137 → ℕ)

/-! ## The result -/

/-- A chain's last slot: what the chain brings to device `c`. -/
abbrev lastA (i : Fin 8) (c : Dev nD) : FVec F S96x384 .bf16 := sent D i 7 (src i c)
abbrev lastB (i : Fin 8) (c : Dev nD) : FVec F S96x384 .bf16 := sent D i 6 (src i c)

/-- The four groups of 384 columns of the result on device `c`. -/
def outCols (c : Dev nD) : Fin 4 → FVec F S96x384 .f32
  | 0 => final 0 slices_S96x1536_o0_0_S96x384 (pk D c 0) (lastA D 0 c) (lastB D 5 c)
  | 1 => final 384 slices_S96x1536_o0_384_S96x384 (pk D c 0) (lastA D 2 c) (lastB D 7 c)
  | 2 => final 768 slices_S96x1536_o0_768_S96x384 (pk D c 0) (lastA D 1 c) (lastB D 4 c)
  | 3 => final 1152 slices_S96x1536_o0_1152_S96x384 (pk D c 0) (lastA D 3 c) (lastB D 6 c)

/-- The result on device `c`. -/
def outAt (c : Dev nD) : (cc0_stg2_0 : Ref sig .tc).ty.Contents (Elt F) := fun (y : S96x1536.Idx) =>
  outCols D c (Fin.ofNat 4 ((y 1).val / 384))
    (fun a => match a with
      | 0 => ⟨(y 0).val, (y 0).isLt⟩
      | 1 => ⟨(y 1).val % 384, Nat.mod_lt _ (by decide)⟩)

/-- The four stores of the result, the last first. -/
def outPieces (c : Dev nD) : List (View.Piece (Elt F) S96x1536 .f32) :=
  [⟨Rect.unit (s := S96x1536) ![0, 1152] S96x384.size inb_S96x1536_S96x384_0_1152, outCols D c 3⟩,
   ⟨Rect.unit (s := S96x1536) ![0, 384] S96x384.size inb_S96x1536_S96x384_0_384, outCols D c 1⟩,
   ⟨Rect.unit (s := S96x1536) ![0, 768] S96x384.size inb_S96x1536_S96x384_0_768, outCols D c 2⟩,
   ⟨Rect.unit (s := S96x1536) ![0, 0] S96x384.size inb_S96x1536_S96x384_0_0, outCols D c 0⟩]

theorem outAt_piece (c : Dev nD) (j : Fin 4) (lo : ℕ) (hl : lo = 384 * j.val) (h : ∀ a, (![0, lo] : Fin 2 → ℕ) a + S96x384.size a ≤ S96x1536.size a)
    (x : S96x384.Idx) : outCols D c j x = outAt D c ((Rect.unit (s := S96x1536) ![0, lo] S96x384.size h).emb x) := by
  have h1 : (x 1).val < 384 := (x 1).isLt
  have e0 : ((Rect.unit (s := S96x1536) ![0, lo] S96x384.size h).emb x 0).val = (x 0).val := by
    show 0 + 1 * (x 0).val = _; omega
  have e1 : ((Rect.unit (s := S96x1536) ![0, lo] S96x384.size h).emb x 1).val = lo + (x 1).val := by
    show lo + 1 * (x 1).val = _; omega
  unfold outAt
  have ej : Fin.ofNat 4 (((Rect.unit (s := S96x1536) ![0, lo] S96x384.size h).emb x 1).val / 384) = j := by
    rw [e1]; exact Fin.ext (by show (lo + (x 1).val) / 384 % 4 = j.val; have := j.isLt; omega)
  rw [ej]
  congr 1
  funext a
  match a with
  | 0 => exact Fin.ext e0.symm
  | 1 => exact Fin.ext (by show (x 1).val = _ % 384; rw [e1]; omega)

/-- The four stores leave the result, whatever the buffer held. -/
theorem out_eq (c : Dev nD) (f : (cc0_stg2_0 : Ref sig .tc).ty.Contents (Elt F)) : oM.view.writes (Elt F) f (outPieces D c) = outAt D c := by
  have h : ∀ y, oM.view.read (Elt F) (oM.view.writes (Elt F) f (outPieces D c)) y = outAt D c y := fun y => by
    refine View.read_writes_apply_of_pieces oM.view f (outAt D c) (outPieces D c) ?_ y ?_
    · intro p hp
      simp only [outPieces, List.mem_cons, List.not_mem_nil, or_false] at hp
      rcases hp with rfl | rfl | rfl | rfl
      · exact outAt_piece D c 3 1152 rfl inb_S96x1536_S96x384_0_1152
      · exact outAt_piece D c 1 384 rfl inb_S96x1536_S96x384_0_384
      · exact outAt_piece D c 2 768 rfl inb_S96x1536_S96x384_0_768
      · exact outAt_piece D c 0 0 rfl inb_S96x1536_S96x384_0_0
    · exact View.cover_of_blocks (outPieces D c) S96x384.size (by decide) (fun ix => by
        have h0 : (ix 0).val = 0 := by have : (ix 0).val < 96 / 96 := (ix 0).isLt; omega
        have h1 : (ix 1).val < 4 := (ix 1).isLt
        have hc : (ix 1).val = 0 ∨ (ix 1).val = 1 ∨ (ix 1).val = 2 ∨ (ix 1).val = 3 := by omega
        rcases hc with hc | hc | hc | hc
        · exact ⟨_, by simp only [outPieces]; exact List.mem_cons_of_mem _ (List.mem_cons_of_mem _ (List.mem_cons_of_mem _ List.mem_cons_self)),
            fun a => by match a with
              | 0 => show 0 = (ix 0).val * 96; omega
              | 1 => show 0 = (ix 1).val * 384; omega, fun a => rfl, fun a => rfl⟩
        · exact ⟨_, by simp only [outPieces]; exact List.mem_cons_of_mem _ List.mem_cons_self,
            fun a => by match a with
              | 0 => show 0 = (ix 0).val * 96; omega
              | 1 => show 384 = (ix 1).val * 384; omega, fun a => rfl, fun a => rfl⟩
        · exact ⟨_, by simp only [outPieces]; exact List.mem_cons_of_mem _ (List.mem_cons_of_mem _ List.mem_cons_self),
            fun a => by match a with
              | 0 => show 0 = (ix 0).val * 96; omega
              | 1 => show 768 = (ix 1).val * 384; omega, fun a => rfl, fun a => rfl⟩
        · exact ⟨_, by simp only [outPieces]; exact List.mem_cons_self,
            fun a => by match a with
              | 0 => show 0 = (ix 0).val * 96; omega
              | 1 => show 1152 = (ix 1).val * 384; omega, fun a => rfl, fun a => rfl⟩) y
  have hr : oM.view.read (Elt F) (oM.view.writes (Elt F) f (outPieces D c)) = oM.view.writes (Elt F) f (outPieces D c) := View.read_whole _ _
  rw [← hr]; exact funext h

/-- The same of the stores as the steps of the body leave them. -/
theorem out_done (c : Dev nD) (f : (cc0_stg2_0 : Ref sig .tc).ty.Contents (Elt F)) :
    outP c (oM.view.writes (Elt F) f
      [⟨Rect.unit (s := S96x1536) ![0, (chn 3).lo] S96x384.size inb_S96x1536_S96x384_0_1152,
          final (chn 3).lo slices_S96x1536_o0_1152_S96x384 (pk D c 0) (sent D 3 7 (src 3 c)) (sent D 6 6 (src 6 c))⟩,
        ⟨Rect.unit (s := S96x1536) ![0, (chn 2).lo] S96x384.size inb_S96x1536_S96x384_0_384,
          final (chn 2).lo slices_S96x1536_o0_384_S96x384 (pk D c 0) (sent D 2 7 (src 2 c)) (sent D 7 6 (src 7 c))⟩,
        ⟨Rect.unit (s := S96x1536) ![0, (chn 1).lo] S96x384.size inb_S96x1536_S96x384_0_768,
          final (chn 1).lo slices_S96x1536_o0_768_S96x384 (pk D c 0) (sent D 1 7 (src 1 c)) (sent D 4 6 (src 4 c))⟩,
        ⟨Rect.unit (s := S96x1536) ![0, (chn 0).lo] S96x384.size inb_S96x1536_S96x384_0_0,
          final (chn 0).lo slices_S96x1536_o0_0_S96x384 (pk D c 0) (sent D 0 7 (src 0 c)) (sent D 5 6 (src 5 c))⟩])
      ⊢ outP c (outAt D c) := by
  show outP c (oM.view.writes (Elt F) f (outPieces D c)) ⊢ _
  rw [out_eq]

theorem runs_ret (c : Dev nD) (Q : PUnit → sProp 𝕄) : Q ⟨⟩ ⊢ runs c (Prog.ret ⟨⟩) Q := by
  show Q ⟨⟩ ⊢ wp frame (wpE (defs₀ (F := F)) 𝒱₀ (c : Thread nD τ) none) Set.univ (Prog.ret ⟨⟩) Q
  rw [wp_ret]; iintro H; imodintro; iexact H

/-! ## The run of the body -/

/-- What a chain starts from on device `c`: what its copies and waits take, and its slots. -/
def Init (i : Fin 8) (c : Dev nD) : sProp 𝕄 :=
  iprop(bigSep (Finset.Ico 0 8) (fun j => fut (F := F) i c j) ∗ slotE (F := F) i c 0 ∗ lands (F := F) i c)

/-- What the body starts from on device `c`, beside its operands and what it owes. -/
def Start (c : Dev nD) : sProp 𝕄 :=
  iprop((atPos ER (barG c) 0 ∅ 0 ∗ cred (tallyAt (barG c) () 2) ∗ dutyTok ER (barG (nxt c)) 0 false ∗ dutyTok ER (barG (prv c)) 0 true)
    ∗ Init (F := F) 0 c ∗ Init (F := F) 1 c ∗ Init (F := F) 2 c ∗ Init (F := F) 3 c
    ∗ Init (F := F) 4 c ∗ Init (F := F) 5 c ∗ Init (F := F) 6 c ∗ Init (F := F) 7 c)

/-- What it ends with. -/
def Finish (c : Dev nD) : sProp 𝕄 :=
  iprop(atPos ER (barG c) (0 + 1) ∅ 0
    ∗ Fi D 0 c 7 (by decide) ∗ Fi D 1 c 7 (by decide) ∗ Fi D 2 c 7 (by decide) ∗ Fi D 3 c 7 (by decide)
    ∗ Fi D 4 c 6 (by decide) ∗ Fi D 5 c 6 (by decide) ∗ Fi D 6 c 6 (by decide) ∗ Fi D 7 c 6 (by decide))

/-- The steps after the first copies. -/
theorem wp_tail (c : Dev nD) (f : (cc0_stg2_0 : Ref sig .tc).ty.Contents (Elt F)) (Q : PUnit → sProp 𝕄) :
    iprop(recs D K ∗ levAts L lv ∗ opsP D c ∗ StA D c 0 (by decide) ∗ StB D c 0 (by decide) ∗ ow c (Ow c 8) ∗ outP c f)
      ⊢ iprop(((opsP D c ∗ ow c 0 ∗ outP c (outAt D c)
            ∗ Fi D 0 c 7 (by decide) ∗ Fi D 1 c 7 (by decide) ∗ Fi D 2 c 7 (by decide) ∗ Fi D 3 c 7 (by decide)
            ∗ Fi D 4 c 6 (by decide) ∗ Fi D 5 c 6 (by decide) ∗ Fi D 6 c 6 (by decide) ∗ Fi D 7 c 6 (by decide)) -∗ Q ⟨⟩)
        -∗ runs c (tail aM bM oM (dvr c) (ofr c) (ofr_inb c) (pk D c 7) (pk D c 9)) Q) := by
  unfold tail
  iintro ⟨#HR, #Hl, Hab, HA, HB, HO, Hout⟩ Hk
  -- step 0
  iapply (wp_loadPart D c 6 _ Q) $$ Hab; iintro Hab
  iapply (wp_loadPart D c 10 _ Q) $$ Hab; iintro Hab
  iapply (wp_hopsA D K c 0 (by decide) _ _ rfl rfl 8 rfl _ Q) $$ [HA HO]
  · isplitr; · iexact HR
    isplitr; · iexact Hl
    isplitl [HA]; · iexact HA
    iexact HO
  iintro ⟨HA, HO⟩
  iapply (wp_hopsB D K c 0 (by decide) _ _ rfl rfl 12 rfl _ Q) $$ [HB HO]
  · isplitr; · iexact HR
    isplitr; · iexact Hl
    isplitl [HB]; · iexact HB
    iexact HO
  iintro ⟨HB, HO⟩
  -- step 1
  iapply (wp_loadPart D c 5 _ Q) $$ Hab; iintro Hab
  iapply (wp_loadPart D c 11 _ Q) $$ Hab; iintro Hab
  iapply (wp_hopsA D K c 1 (by decide) _ _ rfl rfl 16 rfl _ Q) $$ [HA HO]
  · isplitr; · iexact HR
    isplitr; · iexact Hl
    isplitl [HA]; · iexact HA
    iexact HO
  iintro ⟨HA, HO⟩
  iapply (wp_hopsB D K c 1 (by decide) _ _ rfl rfl 20 rfl _ Q) $$ [HB HO]
  · isplitr; · iexact HR
    isplitr; · iexact Hl
    isplitl [HB]; · iexact HB
    iexact HO
  iintro ⟨HB, HO⟩
  -- step 2
  iapply (wp_loadPart D c 4 _ Q) $$ Hab; iintro Hab
  iapply (wp_loadPart D c 12 _ Q) $$ Hab; iintro Hab
  iapply (wp_hopsA D K c 2 (by decide) _ _ rfl rfl 24 rfl _ Q) $$ [HA HO]
  · isplitr; · iexact HR
    isplitr; · iexact Hl
    isplitl [HA]; · iexact HA
    iexact HO
  iintro ⟨HA, HO⟩
  iapply (wp_hopsB D K c 2 (by decide) _ _ rfl rfl 28 rfl _ Q) $$ [HB HO]
  · isplitr; · iexact HR
    isplitr; · iexact Hl
    isplitl [HB]; · iexact HB
    iexact HO
  iintro ⟨HB, HO⟩
  -- step 3
  iapply (wp_loadPart D c 3 _ Q) $$ Hab; iintro Hab
  iapply (wp_loadPart D c 13 _ Q) $$ Hab; iintro Hab
  iapply (wp_hopsA D K c 3 (by decide) _ _ rfl rfl 32 rfl _ Q) $$ [HA HO]
  · isplitr; · iexact HR
    isplitr; · iexact Hl
    isplitl [HA]; · iexact HA
    iexact HO
  iintro ⟨HA, HO⟩
  iapply (wp_hopsB D K c 3 (by decide) _ _ rfl rfl 36 rfl _ Q) $$ [HB HO]
  · isplitr; · iexact HR
    isplitr; · iexact Hl
    isplitl [HB]; · iexact HB
    iexact HO
  iintro ⟨HB, HO⟩
  -- step 4
  iapply (wp_loadPart D c 2 _ Q) $$ Hab; iintro Hab
  iapply (wp_loadPart D c 14 _ Q) $$ Hab; iintro Hab
  iapply (wp_hopsA D K c 4 (by decide) _ _ rfl rfl 40 rfl _ Q) $$ [HA HO]
  · isplitr; · iexact HR
    isplitr; · iexact Hl
    isplitl [HA]; · iexact HA
    iexact HO
  iintro ⟨HA, HO⟩
  iapply (wp_hopsB D K c 4 (by decide) _ _ rfl rfl 44 rfl _ Q) $$ [HB HO]
  · isplitr; · iexact HR
    isplitr; · iexact Hl
    isplitl [HB]; · iexact HB
    iexact HO
  iintro ⟨HB, HO⟩
  -- step 5
  iapply (wp_loadPart D c 1 _ Q) $$ Hab; iintro Hab
  iapply (wp_loadPart D c 15 _ Q) $$ Hab; iintro Hab
  iapply (wp_hopsA D K c 5 (by decide) _ _ rfl rfl 48 rfl _ Q) $$ [HA HO]
  · isplitr; · iexact HR
    isplitr; · iexact Hl
    isplitl [HA]; · iexact HA
    iexact HO
  iintro ⟨HA, HO⟩
  iapply (wp_hopsB D K c 5 (by decide) _ _ rfl rfl 52 rfl _ Q) $$ [HB HO]
  · isplitr; · iexact HR
    isplitr; · iexact Hl
    isplitl [HB]; · iexact HB
    iexact HO
  iintro ⟨HB, HO⟩
  -- step 6
  iapply (wp_loadPart D c 0 _ Q) $$ Hab; iintro Hab
  iapply (wp_hopsA D K c 6 (by decide) _ _ rfl rfl 56 rfl _ Q) $$ [HA HO]
  · isplitr; · iexact HR
    isplitr; · iexact Hl
    isplitl [HA]; · iexact HA
    iexact HO
  iintro ⟨HA, HO⟩
  -- the last waits
  unfold StA StB
  icases HA with ⟨H0, H1, H2, H3⟩
  icases HB with ⟨H4, H5, H6, H7⟩
  iapply (wp_last D K 4 c 6 _ _ Q) $$ [H4 HO]
  · isplitr; · iexact HR
    isplitr; · iexact Hl
    isplitl [H4]; · iexact H4
    iexact HO
  iintro ⟨H4, HO⟩
  iapply (wp_last D K 5 c 6 _ _ Q) $$ [H5 HO]
  · isplitr; · iexact HR
    isplitr; · iexact Hl
    isplitl [H5]; · iexact H5
    iexact HO
  iintro ⟨H5, HO⟩
  iapply (wp_last D K 6 c 6 _ _ Q) $$ [H6 HO]
  · isplitr; · iexact HR
    isplitr; · iexact Hl
    isplitl [H6]; · iexact H6
    iexact HO
  iintro ⟨H6, HO⟩
  iapply (wp_last D K 7 c 6 _ _ Q) $$ [H7 HO]
  · isplitr; · iexact HR
    isplitr; · iexact Hl
    isplitl [H7]; · iexact H7
    iexact HO
  iintro ⟨H7, HO⟩
  iapply (wp_last D K 0 c 7 _ _ Q) $$ [H0 HO]
  · isplitr; · iexact HR
    isplitr; · iexact Hl
    isplitl [H0]; · iexact H0
    iexact HO
  iintro ⟨H0, HO⟩
  iapply (wp_last D K 1 c 7 _ _ Q) $$ [H1 HO]
  · isplitr; · iexact HR
    isplitr; · iexact Hl
    isplitl [H1]; · iexact H1
    iexact HO
  iintro ⟨H1, HO⟩
  iapply (wp_last D K 2 c 7 _ _ Q) $$ [H2 HO]
  · isplitr; · iexact HR
    isplitr; · iexact Hl
    isplitl [H2]; · iexact H2
    iexact HO
  iintro ⟨H2, HO⟩
  iapply (wp_last D K 3 c 7 _ _ Q) $$ [H3 HO]
  · isplitr; · iexact HR
    isplitr; · iexact Hl
    isplitl [H3]; · iexact H3
    iexact HO
  iintro ⟨H3, HO⟩
  unfold Fi
  icases H0 with ⟨Hs0, H0⟩
  icases H1 with ⟨Hs1, H1⟩
  icases H2 with ⟨Hs2, H2⟩
  icases H3 with ⟨Hs3, H3⟩
  icases H4 with ⟨Hs4, H4⟩
  icases H5 with ⟨Hs5, H5⟩
  icases H6 with ⟨Hs6, H6⟩
  icases H7 with ⟨Hs7, H7⟩
  ihave Hout := (Entails.of_eq (show outP c f = outP c (oM.view.writes (Elt F) f []) from rfl)) $$ Hout
  iapply (wp_finish (chn 0) (chn 5) c 8 7 _ _ _ _ _ _ _ _ f _ Q) $$ [Hs0 Hs5 Hout]
  · isplitl [Hs0]; · iexact Hs0
    isplitl [Hs5]; · iexact Hs5
    iexact Hout
  iintro ⟨Hs0, Hs5, Hout⟩
  iapply (wp_finish (chn 1) (chn 4) c 8 7 _ _ _ _ _ _ _ _ f _ Q) $$ [Hs1 Hs4 Hout]
  · isplitl [Hs1]; · iexact Hs1
    isplitl [Hs4]; · iexact Hs4
    iexact Hout
  iintro ⟨Hs1, Hs4, Hout⟩
  iapply (wp_finish (chn 2) (chn 7) c 8 7 _ _ _ _ _ _ _ _ f _ Q) $$ [Hs2 Hs7 Hout]
  · isplitl [Hs2]; · iexact Hs2
    isplitl [Hs7]; · iexact Hs7
    iexact Hout
  iintro ⟨Hs2, Hs7, Hout⟩
  iapply (wp_finish (chn 3) (chn 6) c 8 7 _ _ _ _ _ _ _ _ f _ Q) $$ [Hs3 Hs6 Hout]
  · isplitl [Hs3]; · iexact Hs3
    isplitl [Hs6]; · iexact Hs6
    iexact Hout
  iintro ⟨Hs3, Hs6, Hout⟩
  ihave Hout := (out_done D c f) $$ Hout
  iapply (runs_ret c Q)
  iapply Hk
  isplitl [Hab]; · iexact Hab
  isplitl [HO]; · rw [← Ow_end c]; iexact HO
  isplitl [Hout]; · iexact Hout
  isplitl [Hs0 H0]
  · isplitl [Hs0]; · iexact Hs0
    iexact H0
  isplitl [Hs1 H1]
  · isplitl [Hs1]; · iexact Hs1
    iexact H1
  isplitl [Hs2 H2]
  · isplitl [Hs2]; · iexact Hs2
    iexact H2
  isplitl [Hs3 H3]
  · isplitl [Hs3]; · iexact Hs3
    iexact H3
  isplitl [Hs4 H4]
  · isplitl [Hs4]; · iexact Hs4
    iexact H4
  isplitl [Hs5 H5]
  · isplitl [Hs5]; · iexact Hs5
    iexact H5
  isplitl [Hs6 H6]
  · isplitl [Hs6]; · iexact Hs6
    iexact H6
  isplitl [Hs7]; · iexact Hs7
  iexact H7

theorem ow_open (c : Dev nD) (O : CellTallies nD τ sig Unit) : (ow c O : sProp 𝕄) ⊢ iprop(∃ W, owes (c : Thread nD τ) O W) := by
  unfold ow; iintro H; iexact H
theorem ow_intro (c : Dev nD) (O : CellTallies nD τ sig Unit) (W : Waits sig Unit) : (owes (c : Thread nD τ) O W : sProp 𝕄) ⊢ ow c O := by
  unfold ow; iintro H; iexists W; iexact H

theorem barPay_false (c : Dev nD) : barPay (F := F) c false = iprop(lands 1 (prv c) ∗ lands 3 (prv c) ∗ lands 5 (prv c) ∗ lands 7 (prv c)) :=
  if_neg Bool.false_ne_true
theorem barPay_true (c : Dev nD) : barPay (F := F) c true = iprop(lands 0 (nxt c) ∗ lands 2 (nxt c) ∗ lands 4 (nxt c) ∗ lands 6 (nxt c)) :=
  if_pos rfl

/-- The body on device `c`. -/
theorem wp_steps (c : Dev nD) (f : (cc0_stg2_0 : Ref sig .tc).ty.Contents (Elt F)) (Q : PUnit → sProp 𝕄) :
    iprop(recs D K ∗ levAts L lv ∗ opsP D c ∗ Start (F := F) c ∗ ow c (O₀ c) ∗ outP c f)
      ⊢ iprop(((opsP D c ∗ ow c 0 ∗ outP c (outAt D c) ∗ Finish D c) -∗ Q ⟨⟩) -∗ runs c (steps aM bM oM c) Q) := by
  unfold Start Init steps bodyOn Finish
  iintro ⟨#HR, #Hl, Hab, ⟨⟨HaB, HcB, HtN, HtP⟩, ⟨Hf0, Hz0, Hd0⟩, ⟨Hf1, Hz1, Hd1⟩, ⟨Hf2, Hz2, Hd2⟩, ⟨Hf3, Hz3, Hd3⟩, ⟨Hf4, Hz4, Hd4⟩, ⟨Hf5, Hz5, Hd5⟩, ⟨Hf6, Hz6, Hd6⟩, ⟨Hf7, Hz7, Hd7⟩⟩, HO, Hout⟩ Hk
  ihave #⟨HIn, Hrn⟩ := (rec_bar D K (nxt c)) $$ HR
  ihave #⟨HIp, Hrp⟩ := (rec_bar D K (prv c)) $$ HR
  ihave #⟨HIb, Hrb⟩ := (rec_bar D K c) $$ HR
  ihave HO := (ow_open c _) $$ HO
  icases HO with ⟨%W, HO⟩
  -- the signal to the next device hands over the landing slots of the backward chains
  iapply (Rounds.wp_signal 𝒱₀ ER (Rd D) (c : Thread nD τ) none (dst := (nxt c : Thread nD τ)) (κ := K (nxt c, 0))
      (d := false) (by rw [duties_bar]; exact Finset.mem_univ _) rfl () (O₁ c) rfl)
    $$ [HO HtN Hd1 Hd3 Hd5 Hd7]
  · isplitr; · iexact HIn
    isplitl [HO]; · iexact HO
    isplitl [HtN]; · iexact HtN
    isplitl [Hd1 Hd3 Hd5 Hd7]
    · rw [payload_bar, barPay_false, prv_nxt]
      isplitl [Hd1]; · iexact Hd1
      isplitl [Hd3]; · iexact Hd3
      isplitl [Hd5]; · iexact Hd5
      iexact Hd7
    iexact Hrn
  iintro HO
  -- the one to the previous device those of the forward chains
  iapply (Rounds.wp_signal 𝒱₀ ER (Rd D) (c : Thread nD τ) none (dst := (prv c : Thread nD τ)) (κ := K (prv c, 0))
      (d := true) (by rw [duties_bar]; exact Finset.mem_univ _) rfl () (Ow c 0) rfl)
    $$ [HO HtP Hd0 Hd2 Hd4 Hd6]
  · isplitr; · iexact HIp
    isplitl [HO]; · iexact HO
    isplitl [HtP]; · iexact HtP
    isplitl [Hd0 Hd2 Hd4 Hd6]
    · rw [payload_bar, barPay_true, nxt_prv]
      isplitl [Hd0]; · iexact Hd0
      isplitl [Hd2]; · iexact Hd2
      isplitl [Hd4]; · iexact Hd4
      iexact Hd6
    iexact Hrp
  iintro HO
  iapply (wp_loadPart D c 8 _ Q) $$ Hab; iintro Hab
  iapply (wp_fillSlot D 0 c (by decide) _ rfl _ Q) $$ Hz0; iintro Hz0
  iapply (wp_fillSlot D 2 c (by decide) _ rfl _ Q) $$ Hz2; iintro Hz2
  iapply (wp_fillSlot D 1 c (by decide) _ rfl _ Q) $$ Hz1; iintro Hz1
  iapply (wp_fillSlot D 3 c (by decide) _ rfl _ Q) $$ Hz3; iintro Hz3
  -- the barrier: the neighbours are there, with their landing slots
  iapply (Rounds.wp_wait_rest_token 𝒱₀ ER (Rd D) (c : Thread nD τ) none (κ := K (c, 0))
      (wpE_semWait_eq 𝒱₀ (c : Thread nD τ) none Set.univ) (Set.mem_univ _) () (O := Ow c 0) (W := W) (R := 0) (m := 0) (T := ∅)
      (expect_bar D c).symm) $$ [HcB HO HaB]
  · isplitr; · iexact HIb
    isplitl [HcB]; · iexact HcB
    isplitl [HO]; · iexact HO
    isplitr; · iapply (mayWait_Ow c (.reg barrier0) 0 (by decide)); iexact Hl
    iexact HaB
  iintro ⟨HO, HaB, -, Hpay⟩
  ihave Hp := (Entails.of_eq (rest_bar D c)) $$ Hpay
  rw [barPay_false, barPay_true]
  icases Hp with ⟨⟨Hd1, Hd3, Hd5, Hd7⟩, ⟨Hd0, Hd2, Hd4, Hd6⟩⟩
  ihave HO := (ow_intro c _ _) $$ HO
  iapply (wp_start D K 0 c (by decide) _ Q) $$ [Hz0 Hf0 Hd0 HO]
  · isplitr; · iexact HR
    isplitl [Hz0]; · iexact Hz0
    isplitl [Hf0]; · iexact Hf0
    isplitl [Hd0]; · iexact Hd0
    iexact HO
  iintro ⟨H0, HO⟩
  iapply (wp_start D K 1 c (by decide) _ Q) $$ [Hz1 Hf1 Hd1 HO]
  · isplitr; · iexact HR
    isplitl [Hz1]; · iexact Hz1
    isplitl [Hf1]; · iexact Hf1
    isplitl [Hd1]; · iexact Hd1
    iexact HO
  iintro ⟨H1, HO⟩
  iapply (wp_start D K 2 c (by decide) _ Q) $$ [Hz2 Hf2 Hd2 HO]
  · isplitr; · iexact HR
    isplitl [Hz2]; · iexact Hz2
    isplitl [Hf2]; · iexact Hf2
    isplitl [Hd2]; · iexact Hd2
    iexact HO
  iintro ⟨H2, HO⟩
  iapply (wp_start D K 3 c (by decide) _ Q) $$ [Hz3 Hf3 Hd3 HO]
  · isplitr; · iexact HR
    isplitl [Hz3]; · iexact Hz3
    isplitl [Hf3]; · iexact Hf3
    isplitl [Hd3]; · iexact Hd3
    iexact HO
  iintro ⟨H3, HO⟩
  iapply (wp_loadPart D c 7 _ Q) $$ Hab; iintro Hab
  iapply (wp_loadPart D c 9 _ Q) $$ Hab; iintro Hab
  iapply (wp_fillSlot D 4 c (by decide) _ rfl _ Q) $$ Hz4; iintro Hz4
  iapply (wp_fillSlot D 6 c (by decide) _ rfl _ Q) $$ Hz6; iintro Hz6
  iapply (wp_fillSlot D 5 c (by decide) _ rfl _ Q) $$ Hz5; iintro Hz5
  iapply (wp_fillSlot D 7 c (by decide) _ rfl _ Q) $$ Hz7; iintro Hz7
  iapply (wp_start D K 4 c (by decide) _ Q) $$ [Hz4 Hf4 Hd4 HO]
  · isplitr; · iexact HR
    isplitl [Hz4]; · iexact Hz4
    isplitl [Hf4]; · iexact Hf4
    isplitl [Hd4]; · iexact Hd4
    iexact HO
  iintro ⟨H4, HO⟩
  iapply (wp_start D K 5 c (by decide) _ Q) $$ [Hz5 Hf5 Hd5 HO]
  · isplitr; · iexact HR
    isplitl [Hz5]; · iexact Hz5
    isplitl [Hf5]; · iexact Hf5
    isplitl [Hd5]; · iexact Hd5
    iexact HO
  iintro ⟨H5, HO⟩
  iapply (wp_start D K 6 c (by decide) _ Q) $$ [Hz6 Hf6 Hd6 HO]
  · isplitr; · iexact HR
    isplitl [Hz6]; · iexact Hz6
    isplitl [Hf6]; · iexact Hf6
    isplitl [Hd6]; · iexact Hd6
    iexact HO
  iintro ⟨H6, HO⟩
  iapply (wp_start D K 7 c (by decide) _ Q) $$ [Hz7 Hf7 Hd7 HO]
  · isplitr; · iexact HR
    isplitl [Hz7]; · iexact Hz7
    isplitl [Hf7]; · iexact Hf7
    isplitl [Hd7]; · iexact Hd7
    iexact HO
  iintro ⟨H7, HO⟩
  iapply (wp_tail D K c f Q) $$ [Hab H0 H1 H2 H3 H4 H5 H6 H7 HO Hout]
  · isplitr; · iexact HR
    isplitr; · iexact Hl
    isplitl [Hab]; · iexact Hab
    unfold StA StB
    isplitl [H0 H1 H2 H3]
    · isplitl [H0]; · iexact H0
      isplitl [H1]; · iexact H1
      isplitl [H2]; · iexact H2
      iexact H3
    isplitl [H4 H5 H6 H7]
    · isplitl [H4]; · iexact H4
      isplitl [H5]; · iexact H5
      isplitl [H6]; · iexact H6
      iexact H7
    isplitl [HO]; · iexact HO
    iexact Hout
  iintro ⟨Hab, HO, Hout, HF⟩
  iapply Hk
  isplitl [Hab]; · iexact Hab
  isplitl [HO]; · iexact HO
  isplitl [Hout]; · iexact Hout
  isplitl [HaB]; · iexact HaB
  iexact HF

end Cert.RingProof
end
-- ==== Proof.Reindex.lean ====
module

public import proofs.«01_k».proof.Proof.Run

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The transfers' semaphores, chain by chain

A hop of a chain uses the send semaphore of one slot and the receive semaphore of the next; each
chain has one send and one receive semaphore left over. -/

/-- The hops' semaphores, and those left over. -/
abbrev Hop : Type := (Σ i : Fin 8, Fin ((chn i).n - 1) × Bool) ⊕ (Fin 8 × Bool)

theorem pred_lt (i : Fin 8) : (chn i).n - 1 < (chn i).n := by have := chn_n i; split at this <;> omega
theorem zero_lt (i : Fin 8) : 0 < (chn i).n := by have := chn_n i; split at this <;> omega
theorem hop_lt (i : Fin 8) (k : Fin ((chn i).n - 1)) : k.val + 1 < (chn i).n := by have := k.isLt; omega

/-- The semaphore of each. -/
def hopSem : Hop → DmaSem sig
  | .inl ⟨i, k, false⟩ => (chn i).semS k.val (Nat.lt_of_succ_lt (hop_lt i k))
  | .inl ⟨i, k, true⟩ => (chn i).semR (k.val + 1) (hop_lt i k)
  | .inr ⟨i, false⟩ => (chn i).semS ((chn i).n - 1) (pred_lt i)
  | .inr ⟨i, true⟩ => (chn i).semR 0 (zero_lt i)

def hopIx (x : Hop) : Fin 136 := Fin.ofNat 136 ((hopSem x).val - 3)

theorem hopIx_bij : Function.Bijective hopIx := by decide +kernel
theorem osem_hopIx : ∀ x, osem (hopIx x) = .dma (hopSem x) := by decide +kernel

/-- The hops' semaphores are the kernel's. -/
def hops : Hop ≃ Fin 136 := Equiv.ofBijective hopIx hopIx_bij

/-- A resource of the send semaphore of hop `k` of a chain, and of its receive semaphore; nothing where there is no such hop. -/
def halfS (Ψ : SemLoc sig → sProp 𝕄) (i : Fin 8) (k : ℕ) : sProp 𝕄 :=
  if h : k + 1 < (chn i).n then Ψ (.dma ((chn i).semS k (Nat.lt_of_succ_lt h))) else iprop(emp)
def halfR (Ψ : SemLoc sig → sProp 𝕄) (i : Fin 8) (k : ℕ) : sProp 𝕄 :=
  if h : k + 1 < (chn i).n then Ψ (.dma ((chn i).semR (k + 1) h)) else iprop(emp)

/-- A resource of all the send semaphores of a chain's hops, and of all the receive semaphores. -/
def allS (Ψ : SemLoc sig → sProp 𝕄) (i : Fin 8) : sProp 𝕄 := bigSep (Finset.Ico 0 8) (halfS Ψ i)
def allR (Ψ : SemLoc sig → sProp 𝕄) (i : Fin 8) : sProp 𝕄 := bigSep (Finset.Ico 0 8) (halfR Ψ i)

/-- The same of the two semaphores left over. -/
def spare (Ψ : SemLoc sig → sProp 𝕄) (i : Fin 8) : sProp 𝕄 :=
  iprop(Ψ (.dma ((chn i).semS ((chn i).n - 1) (pred_lt i))) ∗ Ψ (.dma ((chn i).semR 0 (zero_lt i))))

theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

/-- A family over the numbers below `m`, by the numbers themselves. -/
theorem bigSep_fin_range (m : ℕ) (A : ℕ → sProp 𝕄) :
    bigSep (Finset.univ : Finset (Fin m)) (fun k => A k.val) = bigSep (Finset.range m) A := by
  have e : (Finset.univ : Finset (Fin m)).map Fin.valEmbedding = Finset.range m := by
    ext x
    simp only [Finset.mem_map, Finset.mem_univ, true_and, Finset.mem_range]
    exact ⟨fun ⟨k, hk⟩ => by have := k.isLt; have : k.val = x := hk; omega, fun h => ⟨⟨x, h⟩, rfl⟩⟩
  rw [← e, bigSep_map]; rfl

/-- A family that is nothing from `m` on, taken further. -/
theorem range_fill (m M : ℕ) (hm : m ≤ M) (A : ℕ → sProp 𝕄) (hA : ∀ k, m ≤ k → A k = iprop(emp)) :
    bigSep (Finset.range m) A = bigSep (Finset.Ico 0 M) A := by
  have e : Finset.range m = (Finset.Ico 0 M).filter (· < m) := by
    ext x; simp only [Finset.mem_range, Finset.mem_filter, Finset.mem_Ico]; omega
  rw [e, bigSep_filter]
  refine bigSep_congr fun k _ => ?_
  split
  · rfl
  · exact (hA k (by omega)).symm

/-- A resource of all the transfers' semaphores, hop by hop. -/
theorem sems_eq (Ψ : SemLoc sig → sProp 𝕄) :
    bigSep Finset.univ (fun j : Fin 136 => Ψ (osem j))
      = iprop(bigSep Finset.univ (allS Ψ) ∗ bigSep Finset.univ (allR Ψ) ∗ bigSep Finset.univ (spare Ψ)) := by
  rw [bigSep_univ_equiv hops, bigSep_univ_sum]
  have h1 : bigSep Finset.univ (fun a => Ψ (osem (hops (.inl a)))) = iprop(bigSep Finset.univ (allS Ψ) ∗ bigSep Finset.univ (allR Ψ)) := by
    have hm (i : Fin 8) : (chn i).n - 1 ≤ 8 := by have := chn_n i; split at this <;> omega
    have hb (i : Fin 8) (A : ℕ → sProp 𝕄) (hA : ∀ k, ¬k + 1 < (chn i).n → A k = iprop(emp)) :
        bigSep (Finset.Ico 0 8) A = bigSep Finset.univ fun k : Fin ((chn i).n - 1) => A k.val := by
      rw [bigSep_fin_range, range_fill _ 8 (hm i) A fun k hk => hA k (by omega)]
    have h2 (i : Fin 8) : iprop(allS Ψ i ∗ allR Ψ i)
        = bigSep Finset.univ fun x : Fin ((chn i).n - 1) × Bool => Ψ (.dma (hopSem (.inl ⟨i, x⟩))) := by
      unfold allS allR
      rw [hb i (halfS Ψ i) fun k h => dif_neg h, hb i (halfR Ψ i) fun k h => dif_neg h, bigSep_univ_prod, ← bigSep_sep']
      refine bigSep_congr fun k _ => ?_
      rw [bigSep_bool]
      unfold halfS halfR; rw [dif_pos (hop_lt i k), dif_pos (hop_lt i k)]; rfl
    rw [← bigSep_sep', bigSep_congr (fun i _ => h2 i), ← Finset.univ_sigma_univ, Pipeline.bigSep_sigma]
    refine bigSep_congr fun i _ => bigSep_congr fun x _ => congrArg Ψ (osem_hopIx (.inl ⟨i, x⟩))
  have h3 : bigSep Finset.univ (fun a => Ψ (osem (hops (.inr a)))) = bigSep Finset.univ (spare Ψ) := by
    rw [bigSep_univ_prod]
    refine bigSep_congr fun i _ => ?_
    rw [bigSep_bool]
    have e (b : Bool) : osem (hops (.inr (i, b))) = .dma (hopSem (.inr (i, b))) := osem_hopIx _
    rw [e, e]; rfl
  rw [h1, h3]
  exact BI.equiv_iff.mp ⟨BI.sep_assoc, BI.sep_assoc'⟩

/-- A family over the eight chains, written out. -/
theorem eight (Φ : Fin 8 → sProp 𝕄) : bigSep Finset.univ Φ
    = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]; rfl

/-- A resource of all the kernel's semaphores. -/
theorem csems_eq (Ψ : SemLoc sig → sProp 𝕄) :
    bigSep Finset.univ (fun k : Fin 137 => Ψ (csem k))
      = iprop(Ψ (.reg barrier0) ∗ bigSep Finset.univ (allS Ψ) ∗ bigSep Finset.univ (allR Ψ) ∗ bigSep Finset.univ (spare Ψ)) := by
  rw [← sems_eq, Fin.univ_succ, Finset.cons_eq_insert, BI.bigSep_insert (by simp), bigSep_map]
  rfl

end Cert.RingProof

end
-- ==== Proof.Buffers.lean ====
module

public import proofs.«01_k».proof.Proof.Reindex

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A chain's buffer is its slots -/

/-- The slots of a buffer are disjoint, -/
theorem slots_disjoint (n : ℕ) (t t' : Fin n) (h : t ≠ t') :
    Disjoint (slotRect n t.val t.isLt).set (slotRect n t'.val t'.isLt).set := by
  rw [Finset.disjoint_left]
  intro x hx hx'
  have h1 := Rect.mem_set_unit.mp hx 0
  have h2 := Rect.mem_set_unit.mp hx' 0
  have h1' : t.val ≤ (x 0).val ∧ (x 0).val < t.val + 1 := h1
  have h2' : t'.val ≤ (x 0).val ∧ (x 0).val < t'.val + 1 := h2
  exact h (Fin.ext (by omega))

/-- and cover it. -/
theorem slots_cover (n : ℕ) :
    (Finset.univ : Finset (Fin n)).biUnion (fun t => (slotRect n t.val t.isLt).set) = Finset.univ := by
  ext x
  simp only [Finset.mem_biUnion, Finset.mem_univ, true_and, iff_true]
  refine ⟨(⟨(x 0).val, (x 0).isLt⟩ : Fin n), Rect.mem_set_unit.mpr fun a => ?_⟩
  fin_cases a
  · show (x 0).val ≤ (x 0).val ∧ (x 0).val < (x 0).val + 1; omega
  · exact ⟨Nat.zero_le _, lt_of_lt_of_eq (x 1).isLt (Nat.zero_add _).symm⟩
  · exact ⟨Nat.zero_le _, lt_of_lt_of_eq (x 2).isLt (Nat.zero_add _).symm⟩

/-- A chain's whole buffer on device `c`, at any contents. -/
def bufE (i : Fin 8) (c : Dev nD) : sProp 𝕄 :=
  iprop(∃ f, (chn i).buf.view.loc (c : Thread nD τ) ↦[(chn i).buf.view.set]{fullShare} f)

theorem slot_set (X : Chain) (k : ℕ) (h : k < X.n) : (X.slot k h).view.set = (X.buf.view.slice (slotRect X.n k h)).set :=
  View.set_reshape (X.buf.view.slice (slotRect X.n k h)) _

/-- A slot at any contents is its elements at any contents. -/
theorem slotO_any (X : Chain) (c : Dev nD) (k : ℕ) (h : k < X.n) :
    iprop(∃ v, slotO (F := F) X c k h v)
      = iprop(∃ f, X.buf.view.loc (c : Thread nD τ) ↦[(X.buf.view.slice (slotRect X.n k h)).set]{fullShare} f) := by
  refine BI.equiv_iff.mp ⟨show iprop(∃ v, slotO (F := F) X c k h v) ⊢ iprop(∃ f, X.buf.view.loc (c : Thread nD τ) ↦[(X.buf.view.slice (slotRect X.n k h)).set]{fullShare} f) from ?_,
    show iprop(∃ f, X.buf.view.loc (c : Thread nD τ) ↦[(X.buf.view.slice (slotRect X.n k h)).set]{fullShare} f) ⊢ iprop(∃ v, slotO (F := F) X c k h v) from ?_⟩
  · unfold slotO owns
    iintro ⟨%v, %f, -, H⟩
    iexists f
    ihave H' := (Entails.of_eq (show ((X.slot k h).view.loc (c : Thread nD τ) ↦[(X.slot k h).view.set]{fullShare} f : sProp 𝕄)
      = (X.buf.view.loc (c : Thread nD τ) ↦[(X.buf.view.slice (slotRect X.n k h)).set]{fullShare} f) from by rw [slot_set])) $$ H
    iexact H'
  · unfold slotO owns
    iintro ⟨%f, H⟩
    iexists (X.slot k h).view.read (Elt F) f; iexists f
    isplitr; · ipureintro; rfl
    ihave H' := (Entails.of_eq (show ((X.slot k h).view.loc (c : Thread nD τ) ↦[(X.slot k h).view.set]{fullShare} f : sProp 𝕄)
      = (X.buf.view.loc (c : Thread nD τ) ↦[(X.buf.view.slice (slotRect X.n k h)).set]{fullShare} f) from by rw [slot_set]).symm) $$ H
    iexact H'

theorem buf_set (X : Chain) : (Finset.univ : Finset (Fin X.n)).biUnion (fun t => (X.buf.view.slice (slotRect X.n t.val t.isLt)).set)
    = X.buf.view.set := by
  ext i; constructor
  · intro hi
    obtain ⟨t, -, hi⟩ := Finset.mem_biUnion.mp hi
    exact View.set_slice_subset _ _ hi
  · intro hi
    rw [View.set, Finset.mem_map] at hi
    obtain ⟨x, -, rfl⟩ := hi
    obtain ⟨t, -, hx⟩ := Finset.mem_biUnion.mp ((slots_cover X.n).symm ▸ Finset.mem_univ x)
    exact Finset.mem_biUnion.mpr ⟨t, Finset.mem_univ _, by rw [View.set_slice]; exact Finset.mem_map_of_mem _ hx⟩

theorem slots_apart (X : Chain) (t t' : Fin X.n) (h : t ≠ t') :
    Disjoint (X.buf.view.slice (slotRect X.n t.val t.isLt)).set (X.buf.view.slice (slotRect X.n t'.val t'.isLt)).set := by
  rw [View.set_slice, View.set_slice]; exact (Finset.disjoint_map _).mpr (slots_disjoint X.n t t' h)

/-- The slots of a chain, by number up to nine. -/
theorem slots_range (i : Fin 8) (c : Dev nD) :
    bigSep Finset.univ (fun t : Fin (chn i).n => iprop(∃ v, slotO (F := F) (chn i) c t.val t.isLt v))
      = bigSep (Finset.Ico 0 9) (slotE (F := F) i c) := by
  have hn : (chn i).n ≤ 9 := by have := chn_n i; split at this <;> omega
  have e (t : Fin (chn i).n) : iprop(∃ v, slotO (F := F) (chn i) c t.val t.isLt v) = slotE (F := F) i c t.val := by
    unfold slotE slotP; simp only [dif_pos t.isLt]
  rw [bigSep_congr (fun t _ => e t), bigSep_fin_range (chn i).n (slotE (F := F) i c)]
  refine range_fill _ 9 hn _ fun k hk => ?_
  unfold slotE slotP
  simp only [dif_neg (Nat.not_lt.mpr hk)]
  refine BI.equiv_iff.mp ⟨show iprop(∃ v : FVec F S96x384 .bf16, emp) ⊢ (iprop(emp) : sProp 𝕄) from ?_,
    show (iprop(emp) : sProp 𝕄) ⊢ iprop(∃ v : FVec F S96x384 .bf16, emp) from ?_⟩
  · iintro -; iempintro
  · iintro -; iexists (fun _ => Classical.choice (Elt.nonempty F .bf16)); iempintro

/-- A buffer taken apart, -/
theorem buf_split (i : Fin 8) (c : Dev nD) : bufE (F := F) i c ⊢ iprop(slotE (F := F) i c 0 ∗ lands (F := F) i c) := by
  unfold lands
  rw [← Ico_take (P := slotE (F := F) i c) (by decide : 0 < 9), ← slots_range]
  unfold bufE
  rw [← buf_set]
  have h (f) (t : Fin (chn i).n) : ((chn i).buf.view.loc (c : Thread nD τ) ↦[((chn i).buf.view.slice (slotRect (chn i).n t.val t.isLt)).set]{fullShare} f : sProp 𝕄)
      ⊢ iprop(∃ v, slotO (F := F) (chn i) c t.val t.isLt v) := by
    rw [slotO_any]; iintro H; iexists f; iexact H
  iintro ⟨%f, H⟩
  ihave H1 := (Entails.of_eq (pointsTo_biUnion (f := f) _ _ fun t _ t' _ h => slots_apart (chn i) t t' h)) $$ H
  ihave H' := (show bigSep Finset.univ (fun t : Fin (chn i).n => ((chn i).buf.view.loc (c : Thread nD τ) ↦[((chn i).buf.view.slice (slotRect (chn i).n t.val t.isLt)).set]{fullShare} f : sProp 𝕄))
    ⊢ bigSep Finset.univ (fun t : Fin (chn i).n => iprop(∃ v, slotO (F := F) (chn i) c t.val t.isLt v)) from bigSep_mono fun t _ => h f t) $$ H1
  iexact H'

/-- and put together. -/
theorem buf_join (i : Fin 8) (c : Dev nD) : bigSep (Finset.Ico 0 9) (slotE (F := F) i c) ⊢ bufE (F := F) i c := by
  rw [← slots_range, bigSep_congr (fun t _ => slotO_any (chn i) c t.val t.isLt)]
  refine (BI.bigSep_exists_pi Finset.univ (fun (t : Fin (chn i).n) f =>
    (((chn i).buf.view.loc (c : Thread nD τ) ↦[((chn i).buf.view.slice (slotRect (chn i).n t.val t.isLt)).set]{fullShare} f : sProp 𝕄)))).trans ?_
  iintro ⟨%fs, H⟩
  ihave H' := (pointsTo_biUnion_join Finset.univ _ fs (fs ⟨0, zero_lt i⟩) fun t _ t' _ h => slots_apart (chn i) t t' h) $$ H
  icases H' with ⟨%g, -, H⟩
  unfold bufE; rw [← buf_set]
  iexists g; iexact H

/-- The scratch buffers of the launch are the chains' buffers. -/
theorem scratch_eq (c : Dev nD) : (Pipeline.scopedRest cfg0.spec c : sProp 𝕄) = bigSep Finset.univ fun i => bufE (F := F) i c := by
  have e (b : Ref sig .tc) : iprop(∃ f, (Memref.whole b).view.loc (c : Thread nD τ) ↦[(Memref.whole b).view.set]{fullShare} f)
      = (iprop(∃ f : Buf (Elt F) ((c : Thread nD τ).loc b), ((c : Thread nD τ).loc b) ↦{fullShare} f) : sProp 𝕄) := by
    simp only [Memref.view_whole, View.set_whole]
  rw [scopedRest0_eq, eight, ← e cc0_scratch0, ← e cc0_scratch1, ← e cc0_scratch2, ← e cc0_scratch3, ← e cc0_scratch4,
    ← e cc0_scratch5, ← e cc0_scratch6, ← e cc0_scratch7]
  rfl

end Cert.RingProof

end
-- ==== Proof.Ghost.lean ====
module

public import proofs.«01_k».proof.Proof.Buffers

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Ops F)

/-! ## Cells, tokens and positions at the launch -/

theorem csem_injective : Function.Injective csem := by decide +kernel

theorem kcell_injective : Function.Injective (kcell : Dev nD × Fin 137 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def ringCells : Finset (GSem nD τ sig) := Finset.univ.map ⟨kcell, kcell_injective⟩

/-- The tokens minted for a device's own semaphores: the barrier's two, and one for each other. -/
def tokOf (cj : Dev nD × Fin 138) : GSem nD τ sig × ℕ × Bool :=
  Fin.cases (barG cj.1, 0, true) (fun k => (kcell (cj.1, k), 0, false)) cj.2
theorem tokOf_injective : Function.Injective (tokOf : Dev nD × Fin 138 → GSem nD τ sig × ℕ × Bool) := by
  rintro ⟨c, j⟩ ⟨c', j'⟩ h
  induction j using Fin.cases <;> induction j' using Fin.cases
  · have h1 : c = c' := congrArg (fun x : GSem nD τ sig × ℕ × Bool => x.1.1.1) h
    rw [h1]
  · exact absurd (congrArg (fun x : GSem nD τ sig × ℕ × Bool => x.2.2) h) (show ¬true = false by decide)
  · exact absurd (congrArg (fun x : GSem nD τ sig × ℕ × Bool => x.2.2) h) (show ¬false = true by decide)
  · next k k' =>
    have h1 : (c, k) = (c', k') := kcell_injective (congrArg (fun x : GSem nD τ sig × ℕ × Bool => x.1) h)
    rw [(Prod.mk.inj h1).1, (Prod.mk.inj h1).2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- A device's position at one of its semaphores, in its first round and past it; the token of its one duty; the credit of
    one copy. -/
def posC (c : Dev nD) (sm : SemLoc sig) : sProp 𝕄 := atPos ER ((c : Thread nD τ), sm) 0 ∅ 0
def endC (c : Dev nD) (sm : SemLoc sig) : sProp 𝕄 := atPos ER ((c : Thread nD τ), sm) (0 + 1) ∅ 0
def tokC (c : Dev nD) (sm : SemLoc sig) : sProp 𝕄 := dutyTok ER ((c : Thread nD τ), sm) 0 false
def credC (c : Dev nD) (sm : SemLoc sig) : sProp 𝕄 := cred (tallyAt ((c : Thread nD τ), sm) () N)

/-- The tokens of device `c`'s own semaphores. -/
def toks (c : Dev nD) : sProp 𝕄 :=
  iprop(dutyTok ER (barG c) 0 true ∗ bigSep Finset.univ fun k : Fin 137 => tokC (F := F) c (csem k))

/-- What the launch deals to device `c`. -/
def G (c : Dev nD) : sProp 𝕄 :=
  iprop((bigSep Finset.univ fun k : Fin 137 => roundState ER (Rd D) (kcell (c, k)) 0)
    ∗ (bigSep Finset.univ fun k : Fin 137 => posC (F := F) c (csem k)) ∗ (bigSep Finset.univ fun k : Fin 137 => reached ER (kcell (c, k)) 0) ∗ toks (F := F) c)

theorem fund_ring : BI.own (ER (initOf ringCells ringToks)) ⊢ (|==> bigSep Finset.univ (G D) : sProp 𝕄) := by
  have hX (Φ : GSem nD τ sig → sProp 𝕄) : bigSep ringCells Φ = bigSep Finset.univ fun c : Dev nD => bigSep Finset.univ fun k : Fin 137 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    refine bigSep_congr fun c _ => ?_
    unfold toks
    rw [Fin.univ_succ, Finset.cons_eq_insert, BI.bigSep_insert (by simp), bigSep_map]
    rfl
  iintro HX
  imod (Rounds.fund ER (Rd D) ringCells ringToks) $$ HX with ⟨Hst, Hr, Hat, Htok⟩
  imodintro
  ihave Hst' := (Entails.of_eq (hX fun g => roundState ER (Rd D) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The transfers' semaphores are the kernel's own; the barrier is the one outside. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 137 => semVal (kcell (c, k)) 0 : sProp 𝕄) := by
  have e : (unscopedSems0 c : sProp 𝕄) = semVal (barG c) 0 := by
    unfold unscopedSems0; rw [bigSep_eq_bigSepL_of_eq [SemLoc.reg barrier0] (by decide) (by decide)]; rfl
  rw [e, Fin.univ_succ, Finset.cons_eq_insert, BI.bigSep_insert (by simp), bigSep_map]
  rfl

/-- Allocating the invariants of one device's semaphores. -/
theorem core_alloc (c : Dev nD) :
    iprop(Pipeline.ownSems0 (Ix := Unit) (Name := ℕ) (U := UU) (Lvl := ℕ) (Val := Elt F) (τ := τ) osem c ∗ unscopedSems0 c ∗ G D c)
      ⊢ |={Set.univ}=> iprop((bigSep Finset.univ fun k => iprop(∃ κ : ℕ, cellInv ER (Rd D) κ (kcell (c, k))))
          ∗ (bigSep Finset.univ fun k : Fin 137 => posC (F := F) c (csem k)) ∗ (bigSep Finset.univ fun k : Fin 137 => reached ER (kcell (c, k)) 0) ∗ toks (F := F) c) := by
  unfold G
  iintro ⟨Hos, Hus, Hst, Hat, Hr, Htok⟩
  ihave Hv := (Entails.of_eq (sems0_eq (F := F) c)) $$ [Hos Hus]
  · isplitl [Hus] <;> iassumption
  imod (show iprop((bigSep Finset.univ fun k : Fin 137 => semVal (kcell (c, k)) 0) ∗ bigSep Finset.univ fun k : Fin 137 => roundState ER (Rd D) (kcell (c, k)) 0)
      ⊢ (|={Set.univ}=> bigSep Finset.univ fun k => iprop(∃ κ : ℕ, cellInv ER (Rd D) κ (kcell (c, k))) : sProp 𝕄) from by
        rw [← bigSep_sep']
        exact (bigSep_mono fun k _ => (Rounds.body_intro ER (Rd D) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- The tokens of the duties device `c` pays. -/
def payToks (c : Dev nD) : sProp 𝕄 :=
  iprop(dutyTok ER (barG (nxt c)) 0 false ∗ dutyTok ER (barG (prv c)) 0 true
    ∗ bigSep Finset.univ (allS (tokC (F := F) c)) ∗ bigSep Finset.univ fun i => allR (tokC (F := F) (tgt i c)) i)

/-- Where a chain sends to, as a rotation of the ring. -/
def turn (i : Fin 8) : Dev nD ≃ Dev nD := ⟨tgt i, src i, src_tgt i, tgt_src i⟩

/-- The tokens dealt around the ring. -/
theorem toks_around : (bigSep Finset.univ fun c : Dev nD => toks (F := F) c) ⊢ bigSep Finset.univ fun c : Dev nD => payToks (F := F) c := by
  have hR : (bigSep Finset.univ fun c : Dev nD => bigSep Finset.univ fun i => allR (tokC (F := F) c) i)
      = bigSep Finset.univ fun c : Dev nD => bigSep Finset.univ fun i => allR (tokC (F := F) (tgt i c)) i := by
    rw [bigSep_univ_comm, bigSep_univ_comm fun (c : Dev nD) (i : Fin 8) => allR (tokC (F := F) (tgt i c)) i]
    exact bigSep_congr fun i _ => bigSep_univ_equiv (turn i) fun c => allR (tokC (F := F) c) i
  unfold toks payToks
  rw [bigSep_congr (s := Finset.univ) fun c _ => congrArg (fun X => iprop(dutyTok ER (barG c) 0 true ∗ X)) (csems_eq (tokC (F := F) c)),
    bigSep_sep', bigSep_sep', bigSep_sep', bigSep_sep', bigSep_sep', bigSep_sep', bigSep_sep', hR,
    bigSep_univ_equiv ring (fun c : Dev nD => tokC (F := F) c (.reg barrier0)),
    bigSep_univ_equiv ring.symm (fun c : Dev nD => (dutyTok ER (barG c) 0 true : sProp 𝕄))]
  iintro ⟨H1, H2, H3, H4, -⟩
  isplitl [H2]; · iexact H2
  isplitl [H1]; · iexact H1
  isplitl [H3]; · iexact H3
  iexact H4

/-- What device `c` starts from, beside the credit and the buffers. -/
def linear (c : Dev nD) : sProp 𝕄 :=
  iprop((posC (F := F) c (.reg barrier0) ∗ bigSep Finset.univ (allS (posC (F := F) c)) ∗ bigSep Finset.univ (allR (posC (F := F) c))
    ∗ bigSep Finset.univ (spare (posC (F := F) c))) ∗ payToks (F := F) c)
def G' (c : Dev nD) : sProp 𝕄 := iprop((∃ K, recs D K) ∗ linear (F := F) c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd D) κ (kcell (c, k))))
          ∗ (bigSep Finset.univ fun k : Fin 137 => posC (F := F) c (csem k)) ∗ (bigSep Finset.univ fun k : Fin 137 => reached ER (kcell (c, k)) 0) ∗ toks (F := F) c) : sProp 𝕄)
      ⊢ bigSep Finset.univ (G' D) := by
  rw [bigSep_sep', bigSep_sep', bigSep_sep', ← bigSep_univ_prod (fun ck : Dev nD × Fin 137 => iprop(∃ κ : ℕ, cellInv ER (Rd D) κ (kcell ck))),
    ← bigSep_univ_prod (fun ck : Dev nD × Fin 137 => (reached ER (kcell ck) 0 : sProp 𝕄))]
  iintro ⟨HI, Hat, #HR, Htok⟩
  ihave HK := (BI.bigSep_exists_pi Finset.univ (fun (ck : Dev nD × Fin 137) (κ : ℕ) => (cellInv ER (Rd D) κ (kcell ck) : sProp 𝕄))) $$ HI
  icases HK with ⟨%K, #HI⟩
  ihave Htk := (toks_around (F := F)) $$ Htok
  iapply (bigSep_with_persistent (R := recs D K) (Φ := linear (F := F)) fun c _ => (show iprop(recs D K ∗ linear (F := F) c) ⊢ G' D c from by
    unfold G'
    iintro ⟨HK, HL⟩
    isplitl [HK]; · iexists K; iexact HK
    iexact HL))
  isplitr
  · unfold recs; rw [bigSep_sep']; isplitl; · iexact HI
    iexact HR
  · iapply ((Entails.of_eq (bigSep_sep' Finset.univ (fun c : Dev nD => bigSep Finset.univ fun k : Fin 137 => posC (F := F) c (csem k)) (payToks (F := F))).symm).trans
      (bigSep_mono fun c _ => show _ ⊢ linear (F := F) c from Entails.of_eq (by unfold linear; rw [csems_eq])))
    isplitl [Hat]; · iexact Hat
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G D c) : sProp 𝕄)
    ⊢ |={Set.univ}=> bigSep Finset.univ (G' D) :=
  ((bigSep_mono fun c _ => core_alloc D c).trans (bigSep_fupd _ _)).trans (BI.fupd_mono (regroup D))

/-! ## The launch credit -/

theorem bar_inj {a b : Dev nD} (h : barG a = barG b) : a = b := congrArg (fun g : GSem nD τ sig => g.1.1) h

/-- A receive semaphore tells its chain, slot and device. -/
theorem recv_inj {i i' : Fin 8} {k k' : ℕ} {h : k < (chn i).n} {h' : k' < (chn i').n} {a b : Dev nD} (e : recvG i k h a = recvG i' k' h' b) :
    i = i' ∧ k = k' ∧ a = b := by
  have e1 : SemLoc.dma ((chn i).semR k h) = .dma ((chn i').semR k' h') := congrArg Prod.snd e
  have e2 : some (true, i, k) = some (true, i', k') := by
    rw [← tag_semR i k h, ← tag_semR i' k' h', SemLoc.dma.inj e1]
  injection e2 with e2
  exact ⟨(Prod.mk.inj (Prod.mk.inj e2).2).1, (Prod.mk.inj (Prod.mk.inj e2).2).2, congrArg (fun g : GSem nD τ sig => g.1.1) e⟩

theorem add_at (A B : CellTallies nD τ sig Unit) (g : GSem nD τ sig) (u : Unit) : (A + B) g u = A g u + B g u := by
  rw [Pi.add_apply, Finsupp.add_apply]

theorem O₀_at (d : Dev nD) (g : GSem nD τ sig) : O₀ d g () = Ow d 0 g () + tallyAt (barG (prv d)) () 1 g () + tallyAt (barG (nxt d)) () 1 g () :=
  (add_at (O₁ d) _ g ()).trans (congrArg (· + _) (add_at (Ow d 0) _ g ()))

theorem Ow_at (d : Dev nD) (m : ℕ) (g : GSem nD τ sig) : Ow d m g () = (Finset.Ico m 60).sum fun x => tallyAt (dstG d x) () N g () := by
  unfold Ow; rw [Finset.sum_apply, Finsupp.finset_sum_apply]

theorem sum_first {a x y z : ℕ} (hx : x = 0) (h : a = x + y + z) : a = y + z := by omega
theorem sum_last {a x y z : ℕ} (hy : y = 0) (hz : z = 0) (h : a = x + y + z) : a = x := by omega

/-- What a device owes another's barrier. -/
theorem owed_bar (d c : Dev nD) : O₀ d (barG c) () = (if d = nxt c then 1 else 0) + (if d = prv c then 1 else 0) := by
  have h0 : Ow d 0 (barG c) () = 0 := by
    refine Nat.eq_zero_of_not_pos fun h => ?_
    obtain ⟨x, -, hx, e⟩ := Ow_pos h
    rw [dstG_eq d x hx] at e
    exact absurd (congrArg Prod.snd e) (by intro h; cases h)
  have h1 (a : Dev nD) : tallyAt (barG a) () 1 (barG c) () = if a = c then 1 else 0 := by
    rw [tallyAt_apply]
    by_cases h : a = c
    · subst h; rw [if_pos rfl]; exact if_pos ⟨rfl, rfl⟩
    · rw [if_neg h]; exact if_neg fun ⟨e, _⟩ => h (bar_inj e).symm
  have h2 : (prv d = c) ↔ (d = nxt c) := ⟨fun h => by rw [← h, nxt_prv], fun h => by rw [h, prv_nxt]⟩
  have h3 : (nxt d = c) ↔ (d = prv c) := ⟨fun h => by rw [← h, prv_nxt], fun h => by rw [h, nxt_prv]⟩
  refine sum_first h0 (O₀_at d (barG c)) |>.trans ?_
  rw [h1, h1, if_congr h2 rfl rfl, if_congr h3 rfl rfl]

/-- What a device owes a receive semaphore. -/
theorem owed_recv (i : Fin 8) (k : ℕ) (h : k + 1 < (chn i).n) (d c : Dev nD) :
    O₀ d (recvG i (k + 1) h c) () = if d = src i c then N else 0 := by
  have hne (b : Dev nD) (n : ℕ) : tallyAt (barG b) () n (recvG i (k + 1) h c) () = 0 := by
    rw [tallyAt_apply]; exact if_neg fun ⟨e, _⟩ => absurd (congrArg Prod.snd e) (by intro h; cases h)
  have hx : 8 * k + i.val < 60 := by have h1 := chn_n i; have h2 := i.isLt; split at h1 <;> omega
  have ht (x : ℕ) (hx' : x ∈ Finset.Ico 0 60) : tallyAt (dstG d x) () N (recvG i (k + 1) h c) ()
      = if x = 8 * k + i.val then (if d = src i c then N else 0) else 0 := by
    have hx6 := (Finset.mem_Ico.mp hx').2
    rw [tallyAt_apply]
    by_cases e : x = 8 * k + i.val
    · rw [if_pos e, e, dstG_at d i k h]
      by_cases hd : d = src i c
      · rw [if_pos hd, hd, tgt_src]; exact if_pos ⟨rfl, rfl⟩
      · rw [if_neg hd]; exact if_neg fun ⟨e, _⟩ => hd (by rw [(recv_inj e).2.2, src_tgt])
    · rw [if_neg e]
      refine if_neg fun ⟨e', _⟩ => e ?_
      rw [dstG_eq d x hx6] at e'
      obtain ⟨e1, e2, -⟩ := recv_inj e'
      have e3 : i.val = x % 8 := congrArg Fin.val e1
      omega
  refine (sum_last (hne (prv d) 1) (hne (nxt d) 1) (O₀_at d (recvG i (k + 1) h c))).trans ((Ow_at d 0 _).trans ?_)
  rw [Finset.sum_congr rfl ht, Finset.sum_ite_eq' (Finset.Ico 0 60) (8 * k + i.val) fun _ => if d = src i c then N else 0,
    if_pos (Finset.mem_Ico.mpr ⟨Nat.zero_le _, hx⟩)]

theorem launch_bar (c : Dev nD) :
    tallyOn (barG c) (launchCredit (Pipeline.owing O₀) 0 (barG c)) = (tallyAt (barG c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_recv (i : Fin 8) (k : ℕ) (h : k + 1 < (chn i).n) (c : Dev nD) :
    tallyOn (recvG i (k + 1) h c) (launchCredit (Pipeline.owing O₀) 0 (recvG i (k + 1) h c)) = (tallyAt (recvG i (k + 1) h c) () N : CellTallies nD τ sig Unit) := by
  unfold tallyAt; refine congrArg _ (Finsupp.ext fun u => ?_); cases u
  rw [Pipeline.launchCredit_owing, Finsupp.single_eq_same, Finset.sum_congr rfl fun d _ => owed_recv i k h d c, Finset.sum_ite_eq' Finset.univ (src i c) fun _ => N,
    if_pos (Finset.mem_univ _)]

/-- The credit a device starts with. -/
theorem creds (c : Dev nD) :
    (Pipeline.launchCred O₀ c : sProp 𝕄) ⊢ iprop(cred (tallyAt (barG c) () 2) ∗ bigSep Finset.univ (allR (credC (F := F) c))) := by
  unfold Pipeline.launchCred
  let Ψ : SemLoc sig → sProp 𝕄 := fun sm => cred (tallyOn ((c : Thread nD τ), sm) (launchCredit (Pipeline.owing O₀) 0 ((c : Thread nD τ), sm)))
  have h1 : bigSep Finset.univ Ψ ⊢ bigSep Finset.univ (fun k : Fin 137 => Ψ (csem k)) := by
    refine (bigSep_subset (Finset.subset_univ (Finset.univ.map ⟨csem, csem_injective⟩))).trans ?_
    rw [bigSep_map]; exact Entails.of_eq (PROP := sProp 𝕄) rfl
  refine h1.trans ?_
  rw [csems_eq]
  have h2 : Ψ (.reg barrier0) = cred (tallyAt (barG c) () 2) := congrArg cred (launch_bar c)
  have h3 (i : Fin 8) : allR Ψ i = allR (credC (F := F) c) i := by
    unfold allR
    refine bigSep_congr fun k _ => ?_
    unfold halfR
    split
    · next h => exact congrArg cred (launch_recv i k h c)
    · rfl
  rw [h2, bigSep_congr (fun i _ => h3 i)]
  iintro ⟨H1, -, H2, -⟩
  isplitl [H1] <;> iassumption

end Cert.RingProof

end
-- ==== Proof.Launch.lean ====
module

public import proofs.«01_k».proof.Proof.Ghost
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Entering and leaving the body -/

section Ends

variable (D : Ops F)

/-- What device `c` starts from, the buffers aside. -/
def begins (c : Dev nD) : sProp 𝕄 :=
  iprop(G' D c ∗ (cred (tallyAt (barG c) () 2) ∗ bigSep Finset.univ (allR (credC (F := F) c))) ∗ levAts L lv)

/-- A chain's part of it, put together. -/
theorem init_intro (i : Fin 8) (c : Dev nD) :
    iprop(allS (tokC (F := F) c) i ∗ allR (tokC (F := F) (tgt i c)) i ∗ allS (posC (F := F) c) i ∗ allR (posC (F := F) c) i
        ∗ allR (credC (F := F) c) i ∗ bufE (F := F) i c) ⊢ Init (F := F) i c := by
  unfold Init allS allR
  have h : iprop(bigSep (Finset.Ico 0 8) (halfS (tokC (F := F) c) i) ∗ bigSep (Finset.Ico 0 8) (halfR (tokC (F := F) (tgt i c)) i)
        ∗ bigSep (Finset.Ico 0 8) (halfS (posC (F := F) c) i) ∗ bigSep (Finset.Ico 0 8) (halfR (posC (F := F) c) i)
        ∗ bigSep (Finset.Ico 0 8) (halfR (credC (F := F) c) i)) ⊢ bigSep (Finset.Ico 0 8) (fun j => fut (F := F) i c j) := by
    rw [← bigSep_sep', ← bigSep_sep', ← bigSep_sep', ← bigSep_sep']
    refine bigSep_mono fun k _ => ?_
    unfold halfS halfR fut
    by_cases hk : k + 1 < (chn i).n
    · simp only [dif_pos hk]; exact BI.Entails.refl _
    · simp only [dif_neg hk]
      show (_ : sProp 𝕄) ⊢ iprop(emp)
      iintro -; iempintro
  iintro ⟨H1, H2, H3, H4, H5, HB⟩
  isplitl [H1 H2 H3 H4 H5]
  · iapply h
    isplitl [H1]; · iexact H1
    isplitl [H2]; · iexact H2
    isplitl [H3]; · iexact H3
    isplitl [H4]; · iexact H4
    iexact H5
  iapply (buf_split i c); iexact HB

theorem begins_open (c : Dev nD) :
    iprop(begins D c ∗ bigSep Finset.univ fun i => bufE (F := F) i c)
      ⊢ iprop((∃ K, recs D K) ∗ levAts L lv ∗ Start (F := F) c ∗ bigSep Finset.univ (spare (posC (F := F) c))) := by
  have h : iprop(bigSep Finset.univ (allS (tokC (F := F) c)) ∗ bigSep Finset.univ (fun i => allR (tokC (F := F) (tgt i c)) i)
      ∗ bigSep Finset.univ (allS (posC (F := F) c)) ∗ bigSep Finset.univ (allR (posC (F := F) c))
      ∗ bigSep Finset.univ (allR (credC (F := F) c)) ∗ bigSep Finset.univ fun i => bufE (F := F) i c)
      ⊢ bigSep Finset.univ fun i => Init (F := F) i c := by
    rw [← bigSep_sep', ← bigSep_sep', ← bigSep_sep', ← bigSep_sep', ← bigSep_sep']
    exact bigSep_mono fun i _ => init_intro i c
  unfold begins G' linear payToks Start posC
  rw [eight fun i => Init (F := F) i c] at h
  iintro ⟨⟨⟨HK, ⟨HaB, Ha1, Ha2, Ha3⟩, HtN, HtP, Ht1, Ht2⟩, ⟨HcB, Hc⟩, Hl⟩, HB⟩
  isplitl [HK]; · iexact HK
  isplitl [Hl]; · iexact Hl
  isplitr [Ha3]
  · isplitl [HaB HcB HtN HtP]
    · isplitl [HaB]; · iexact HaB
      isplitl [HcB]; · iexact HcB
      isplitl [HtN]; · iexact HtN
      iexact HtP
    iapply h
    isplitl [Ht1]; · iexact Ht1
    isplitl [Ht2]; · iexact Ht2
    isplitl [Ha1]; · iexact Ha1
    isplitl [Ha2]; · iexact Ha2
    isplitl [Hc]; · iexact Hc
    iexact HB
  · iexact Ha3

/-- A chain that is through: its buffer, and its positions past the round. -/
theorem fi_open (i : Fin 8) (c : Dev nD) (k : ℕ) (h : k + 1 < (chn i).n) (hk : (chn i).n = k + 2) :
    Fi D i c k h ⊢ iprop(bufE (F := F) i c ∗ allS (endC (F := F) c) i ∗ allR (endC (F := F) c) i) := by
  have hn : k + 1 ≤ 8 := by have := chn_n i; split at this <;> omega
  have hb : bigSep (Finset.range (k + 2)) (slotE (F := F) i c) = bigSep (Finset.Ico 0 9) (slotE (F := F) i c) := by
    rw [← slots_range, ← hk, ← bigSep_fin_range (chn i).n]
    refine bigSep_congr fun t _ => ?_
    unfold slotE slotP; simp only [dif_pos t.isLt]
  have ho : bigSep (Finset.range (k + 1)) (fun j => over D i c j) ⊢ iprop(bigSep (Finset.range (k + 1)) (slotE (F := F) i c)
      ∗ bigSep (Finset.range (k + 1)) (halfS (endC (F := F) c) i) ∗ bigSep (Finset.range (k + 1)) (halfR (endC (F := F) c) i)) := by
    rw [← bigSep_sep', ← bigSep_sep']
    refine bigSep_mono fun j hj => ?_
    have hj' : j + 1 < (chn i).n := by have := Finset.mem_range.mp hj; omega
    unfold over slotE slotP halfS halfR endC
    simp only [dif_pos hj', dif_pos (Nat.lt_of_succ_lt hj')]
    show iprop(slotO (chn i) c j (Nat.lt_of_succ_lt hj') (sent D i j c) ∗ _ ∗ _) ⊢ _
    iintro ⟨H1, H2, H3⟩
    isplitl [H1]; · iexists _; iexact H1
    isplitl [H2]; · iexact H2
    iexact H3
  have hS (Ψ : SemLoc sig → sProp 𝕄) : bigSep (Finset.range (k + 1)) (halfS Ψ i) = allS Ψ i :=
    range_fill (k + 1) 8 hn _ fun j hj => dif_neg (by omega)
  have hR (Ψ : SemLoc sig → sProp 𝕄) : bigSep (Finset.range (k + 1)) (halfR Ψ i) = allR Ψ i :=
    range_fill (k + 1) 8 hn _ fun j hj => dif_neg (by omega)
  rw [hS, hR] at ho
  have hB : iprop(slotE (F := F) i c (k + 1) ∗ bigSep (Finset.range (k + 1)) (slotE (F := F) i c)) ⊢ bufE (F := F) i c := by
    refine BIBase.Entails.trans ?_ (buf_join i c)
    rw [← hb, range_put (P := slotE (F := F) i c) (k + 1)]
  unfold Fi
  iintro ⟨Hs, Ho⟩
  ihave H := ho $$ Ho
  icases H with ⟨H1, H2, H3⟩
  isplitl [Hs H1]
  · iapply hB
    isplitl [Hs]
    · unfold slotE slotP; simp only [dif_pos h]; iexists _; iexact Hs
    iexact H1
  isplitl [H2]; · iexact H2
  iexact H3

theorem finish_open (c : Dev nD) : Finish D c ⊢ iprop(endC (F := F) c (.reg barrier0) ∗ (bigSep Finset.univ fun i => bufE (F := F) i c)
    ∗ bigSep Finset.univ (allS (endC (F := F) c)) ∗ bigSep Finset.univ (allR (endC (F := F) c))) := by
  rw [← bigSep_sep', ← bigSep_sep', eight]
  unfold Finish
  refine BIClass.sep_mono (BI.Entails.refl _) ?_
  exact BIClass.sep_mono (fi_open D 0 c 7 _ rfl) (BIClass.sep_mono (fi_open D 1 c 7 _ rfl) (BIClass.sep_mono (fi_open D 2 c 7 _ rfl) (BIClass.sep_mono (fi_open D 3 c 7 _ rfl)
    (BIClass.sep_mono (fi_open D 4 c 6 _ rfl) (BIClass.sep_mono (fi_open D 5 c 6 _ rfl) (BIClass.sep_mono (fi_open D 6 c 6 _ rfl) (fi_open D 7 c 6 _ rfl)))))))

/-- The semaphores left over have no duties. -/
theorem duties_spare (i : Fin 8) (c : Dev nD) (r : ℕ) :
    (Rd D).duties (sendG i ((chn i).n - 1) (pred_lt i) c) r = ∅ ∧ (Rd D).duties (recvG i 0 (zero_lt i) c) r = ∅ := by
  have hs : duty0 (.dma ((chn i).semS ((chn i).n - 1) (pred_lt i))) = ∅ := by
    unfold duty0; dsimp only; rw [tag_semS]
    exact if_neg (show ¬((chn i).n - 1 + 1 < (chn i).n) by have := zero_lt i; omega)
  have hr : duty0 (.dma ((chn i).semR 0 (zero_lt i))) = ∅ := by
    unfold duty0; dsimp only; rw [tag_semR]
    exact if_neg (show ¬(1 ≤ 0) by omega)
  constructor
  · dsimp only [Rd]; split
    · exact hs
    · rfl
  · dsimp only [Rd]; split
    · exact hr
    · rfl

variable (K : Dev nD × Fin 137 → ℕ)

/-- A semaphore closed: its counter is zero and the device's again. -/
def shut (c : Dev nD) (sm : SemLoc sig) : sProp 𝕄 := iprop(|={Set.univ}=> semVal ((c : Thread nD τ), sm) 0)

/-- Closing one. -/
theorem shut_of {κ : ℕ} {g : GSem nD τ sig} {P R : sProp 𝕄} {n : ℕ} (hR : R ⊢ iprop(cellInv ER (Rd D) κ g ∗ P))
    (hd : ∀ r, n ≤ r → (Rd D).duties g r = ∅) : iprop(R ∗ atPos ER g n ∅ 0) ⊢ iprop(|={Set.univ}=> semVal g 0) := by
  iintro ⟨HR, Ha⟩
  ihave H := hR $$ HR
  icases H with ⟨HI, -⟩
  iapply (Rounds.cell_close ER (Rd D) (Set.mem_univ κ) (fun h => h) (R := n) hd)
  isplitl [HI] <;> iassumption

/-- All of a device's semaphores closed. -/
theorem shut_all (c : Dev nD) :
    iprop(recs D K ∗ endC (F := F) c (.reg barrier0) ∗ bigSep Finset.univ (allS (endC (F := F) c)) ∗ bigSep Finset.univ (allR (endC (F := F) c))
        ∗ bigSep Finset.univ (spare (posC (F := F) c)))
      ⊢ iprop(|={Set.univ}=> (unscopedSems0 c ∗ Pipeline.ownSems0 (Ix := Unit) (Name := ℕ) (U := UU) (Lvl := ℕ) (Val := Elt F) (τ := τ) osem c)) := by
  have hS (i : Fin 8) (_ : i ∈ Finset.univ) : iprop(recs D K ∗ allS (endC (F := F) c) i) ⊢ allS (shut (F := F) c) i := by
    unfold allS
    refine bigSep_with_persistent fun k _ => ?_
    unfold halfS
    by_cases h : k + 1 < (chn i).n
    · simp only [dif_pos h]; exact shut_of D (rec_send D K i k _ c) (duties_later D _)
    · simp only [dif_neg h]
      show (_ : sProp 𝕄) ⊢ iprop(emp)
      iintro -; iempintro
  have hR (i : Fin 8) (_ : i ∈ Finset.univ) : iprop(recs D K ∗ allR (endC (F := F) c) i) ⊢ allR (shut (F := F) c) i := by
    unfold allR
    refine bigSep_with_persistent fun k _ => ?_
    unfold halfR
    by_cases h : k + 1 < (chn i).n
    · simp only [dif_pos h]; exact shut_of D (rec_recv D K i (k + 1) h c) (duties_later D _)
    · simp only [dif_neg h]
      show (_ : sProp 𝕄) ⊢ iprop(emp)
      iintro -; iempintro
  have hP (i : Fin 8) (_ : i ∈ Finset.univ) : iprop(recs D K ∗ spare (posC (F := F) c) i) ⊢ spare (shut (F := F) c) i := by
    unfold spare shut posC
    iintro ⟨#HK, H1, H2⟩
    isplitl [H1]
    · iapply (shut_of D (rec_send D K i _ (pred_lt i) c) fun r _ => (duties_spare D i c r).1)
      isplitr; · iexact HK
      iexact H1
    · iapply (shut_of D (rec_recv D K i _ (zero_lt i) c) fun r _ => (duties_spare D i c r).2)
      isplitr; · iexact HK
      iexact H2
  have hB : iprop(recs D K ∗ endC (F := F) c (.reg barrier0)) ⊢ shut (F := F) c (.reg barrier0) :=
    shut_of D (rec_bar D K c) (duties_later D _)
  rw [sems0_eq]
  refine BIBase.Entails.trans ?_ (bigSep_fupd Finset.univ fun k : Fin 137 => semVal (kcell (c, k)) 0)
  show _ ⊢ bigSep Finset.univ (fun k : Fin 137 => shut (F := F) c (csem k))
  rw [csems_eq]
  iintro ⟨#HK, HB, H1, H2, H3⟩
  isplitl [HB]
  · iapply hB; isplitr; · iexact HK
    iexact HB
  isplitl [H1]
  · iapply (bigSep_with_persistent hS); isplitr; · iexact HK
    iexact H1
  isplitl [H2]
  · iapply (bigSep_with_persistent hR); isplitr; · iexact HK
    iexact H2
  · iapply (bigSep_with_persistent hP); isplitr; · iexact HK
    iexact H3

end Ends

/-! ## The pipeline's proof data -/

variable (m : (ℓ : Loc nD τ sig) → Buf (Elt F) ℓ) (ρ : Dev nD → PrngReg)

def s₀ : MemSt nD τ sig (Elt F) := ⟨m, fun _ => 0, ρ⟩

/-- The devices' operands as launched. -/
def opsOf : Ops F where
  a c := (win0_0.blk (0 : Fin 1)).view.read (Elt F) ((s₀ m ρ).mem ((c : Thread nD τ).loc main_arg0))
  b c := (win0_1.blk (0 : Fin 1)).view.read (Elt F) ((s₀ m ρ).mem ((c : Thread nD τ).loc main_arg1))

def Φ₀ (c : Dev nD) : sProp 𝕄 := iprop(begins (opsOf m ρ) c ∗ bigSep Finset.univ fun i => bufE (F := F) i c)
def Φ₁ (c : Dev nD) : sProp 𝕄 :=
  iprop((unscopedSems0 c ∗ Pipeline.ownSems0 (Ix := Unit) (Name := ℕ) (U := UU) (Lvl := ℕ) (Val := Elt F) (τ := τ) osem c) ∗ bigSep Finset.univ fun i => bufE (F := F) i c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (opsOf m ρ).a c
    | ⟨1, _⟩ => (opsOf m ρ).b c
    | ⟨2, _⟩ => outAt (opsOf m ρ) c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 ((opsOf m ρ).a c) ∗ stg c cc0_stg1_0 ((opsOf m ρ).b c)
    ∗ stg c cc0_stg2_0 (outAt (opsOf m ρ) c))

set_option maxRecDepth 4000 in
/-- The steps, from what the pipeline hands the body to what it takes back. -/
theorem sound_steps (c : Dev nD) : bodyPre m ρ c ⊢ runs c (steps aM bM oM c) (fun _ => bodyPost m ρ c) := by
  refine BIBase.Entails.trans ?_ (wp_fupd _ _ _ _ _)
  unfold bodyPre Φ₀
  iintro ⟨HΦ, Ho, ⟨%d0, %f0, %h0, Ha⟩, ⟨%d1, %f1, %h1, Hb⟩, ⟨%d2, %f2, %h2, Hout⟩⟩
  have hb0 : (dats m ρ 0 c).before (0 : Fin 3) t₀ d0 = (opsOf m ρ).a c := by
    unfold Dat.before; rw [if_pos (fetch0_0 t₀)]; rfl
  have hb1 : (dats m ρ 0 c).before (1 : Fin 3) t₀ d1 = (opsOf m ρ).b c := by
    unfold Dat.before; rw [if_pos (fetch0_1 t₀)]; rfl
  rw [hb0] at h0; rw [hb1] at h1
  subst h0 h1
  ihave H := (begins_open (opsOf m ρ) c) $$ HΦ
  icases H with ⟨⟨%K, #HK⟩, Hl, HS, HP⟩
  unfold Dat.owesAt Pipeline.owesWithin
  icases Ho with ⟨%W, %hW, HO⟩
  iapply (wp_steps (opsOf m ρ) K c f2 (fun _ => iprop(|={Set.univ}=> bodyPost m ρ c))) $$ [Ha Hb Hl HS HO Hout]
  · isplitr; · iexact HK
    isplitl [Hl]; · iexact Hl
    isplitl [Ha Hb]
    · unfold opsP; isplitl [Ha]; · iexact Ha
      iexact Hb
    isplitl [HS]; · iexact HS
    isplitl [HO]; · unfold ow; iexists W; iexact HO
    unfold outP; iexact Hout
  unfold opsP outP ow
  iintro ⟨⟨Ha, Hb⟩, ⟨%W', HO⟩, Hout, HF⟩
  ihave HF' := (finish_open (opsOf m ρ) c) $$ HF
  icases HF' with ⟨HeB, HB, He1, He2⟩
  imod (shut_all (opsOf m ρ) K c) $$ [HeB He1 He2 HP] with Hz
  · isplitr; · iexact HK
    isplitl [HeB]; · iexact HeB
    isplitl [He1]; · iexact He1
    isplitl [He2]; · iexact He2
    iexact HP
  imodintro
  unfold bodyPost Φ₁ Dat.owesAt Pipeline.owesWithin
  rw [show (dats m ρ 0 c).owed t₀.succ = 0 from rfl]
  isplitl [Hz HB]
  · isplitl [Hz]; · iexact Hz
    iexact HB
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

theorem stage_a : win0_0.stage (cfg0.slots t₀ 0) = aM := rfl
theorem stage_b : win0_1.stage (cfg0.slots t₀ 1) = bM := rfl
theorem stage_o : win0_2.stage (cfg0.slots t₀ 2) = oM := rfl

set_option maxRecDepth 65536 in
/-- What the pipeline calls at its one point is the printed body. -/
theorem defs_body : defs₀ (F := F) .tc 0 (t₀, cfg0.slots t₀) = Prog.op .deviceId fun d => steps aM bM oM d := by
  refine Eq.trans (b := bodyAt0 (F := F) t₀) rfl ((body_eq t₀).trans ?_)
  rw [stage_a, stage_b, stage_o]

set_option maxRecDepth 65536 in
/-- The library's body obligation on core `c`. -/
theorem body_obligation (c : Dev nD) : BodyObligation (dats (F := F) m ρ 0 c) (defs₀ (F := F)) 𝒱₀ () Set.univ := fun t => by
  rw [fin_N t]
  rw [bigSep_W, bigSep_W, defs_body, wp_deviceId]
  simp only [owns_whole_eq]
  exact sound_steps m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (opsOf m ρ) c)
      ⊢ |={Set.univ}=> iprop(begins (opsOf m ρ) c ∗ emp) := by
  iintro ⟨-, Hlev, Hcr, -, HG⟩
  ihave Hc := (creds (F := F) c) $$ Hcr
  imodintro
  unfold begins
  isplitl
  · isplitl [HG]; · iexact HG
    isplitl [Hc]; · iexact Hc
    iexact Hlev
  · iempintro

theorem phi0_intro (c : Dev nD) :
    iprop(begins (opsOf m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scratch_eq]
  unfold Φ₁
  iintro ⟨⟨H1, H2⟩, H3⟩
  isplitl [H1]; · iexact H1
  isplitl [H2]; · iexact H2
  iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values, from any memory with zero counters: every execution of `main` on the sixteen devices ends, with each
    device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (opsOf m ρ)) (G' := G' (opsOf m ρ)) (u₀ := u₀)
    (hu₀ := by
      unfold u₀
      iintro Hu
      ihave H := (ownU_pair _ _) $$ Hu
      icases H with ⟨HP, HX⟩
      imod (fund_ring (opsOf m ρ)) $$ HX with HG
      imodintro
      isplitl [HP] <;> iassumption)
    (hglob := glob (opsOf m ρ))
    (hA := fun _ _ => rfl) (hpf := fun _ k => k.elim0)
    (X := begins (opsOf m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they were. -/
theorem finalA_a (c : Dev nD) : finalA m ρ c (0 : Fin 3) = (s₀ m ρ).mem (win0_0.arr.view.loc (c : Thread nD τ)) :=
  (dats (F := F) m ρ 0 c).arrAt_in (0 : Fin 3) rfl _
theorem finalA_b (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Frames.lean ====
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.RingProof

open Idealize.ShloMosaic Idealize.ShloMosaic.TcCoe Idealize.SL.Sem

/-! ## The frames -/

/-- The idealized kernel ends on every execution, with its two arguments unchanged on every device and every semaphore counter at zero. -/
theorem frame_kernelIdeal : Cert.quiescent_KernelIdeal := fun m ρ _ =>
  (θ_run Cert.KernelIdeal.defs _ _).mono
    (fun _ h => ⟨fun c => ⟨(h.1 c (0 : Fin 3)).trans (finalA_a m ρ c), (h.1 c (1 : Fin 3)).trans (finalA_b m ρ c)⟩, h.2⟩)
    (run_main (F := Ideal) m ρ)

/-- The kernel and its idealization have one body table: the two are the same text. -/
theorem defs₀_same {F : FTy → Type} [FloatOps F] : Cert.Kernel.defs₀ (F := F) = Cert.KernelIdeal.defs₀ (F := F) :=
  congrArg Defs.onTc (funext fun l => funext fun x => match l, x with
    | ⟨0, _⟩, (_, _) => rfl
    | ⟨_ + 1, h⟩, _ => absurd h (Nat.not_lt.2 (Nat.le_add_left _ _)))

theorem defs_same {F : FTy → Type} [FloatOps F] : Cert.Kernel.defs (F := F) = Cert.KernelIdeal.defs (F := F) :=
  congrArg (Pipeline.defs (Cert.KernelIdeal.pcfgs (F := F))) defs₀_same

/-- The kernel's run, over any float values, is its idealization's. -/
theorem run_same {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.Kernel.defs (F := F)) (onTc (τ := Cert.Kernel.τ) (Cert.Kernel.main (F := F))) (s₀ m ρ) (fun r => QC m ρ r ∧ r.2.sem = fun _ => 0) := by
  rw [defs_same]
  exact run_main m ρ

/-- The same of the kernel on machine words, from the same run. -/
theorem frame_kernel : Cert.quiescent_Kernel := fun m ρ _ =>
  (θ_run Cert.Kernel.defs _ _).mono
    (fun _ h => ⟨fun c => ⟨(h.1 c (0 : Fin 3)).trans (finalA_a m ρ c), (h.1 c (1 : Fin 3)).trans (finalA_b m ρ c)⟩, h.2⟩)
    (run_same (F := Bits) m ρ)

/-- The reference ends with its arguments unchanged; it has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingProof

end
-- ==== Proof.Value.lean ====
module

public import proofs.«01_k».proof.Proof.Frames
public import Idealize.ShloMosaic.Lib.MatmulPlain
public import Idealize.ShloMosaic.Lib.StackMember
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL.Sem
open Idealize.ShloMosaic.ValueIdx (ix2 eq_ix2)

/-! ## The value, over the reals -/

variable (D : Ops Ideal)

/-- A vector's element, as the extended real it is. -/
abbrev rd {s : Shape} {φ : FTy} (v : FVec Ideal s φ) (i : s.Idx) : EReal := v i

/-- The elements of a device's operands. -/
def aAt (d : Dev nD) (i : Fin 1536) (k : Fin 768) : EReal := rd (s := S1536x768) (φ := .f32) (D.a d) (ix2 i k)
def bAt (d : Dev nD) (k : Fin 768) (q : Fin 1536) : EReal := rd (s := S768x1536) (φ := .f32) (D.b d) (ix2 k q)

/-- Device `d`'s share of row `r` of chunk `j` and column `q` of the product: the sum over its own 768 inner places. -/
def term (d j : Dev nD) (r : Fin 96) (q : Fin 1536) : EReal :=
  ∑ k : Fin 768, aAt D d ⟨96 * j.val + r.val, by have : j.val < 16 := j.isLt; omega⟩ k * bAt D d k q

/-- A device's part of a chunk, at an index. -/
theorem pk_apply (c : Dev nD) (k : ℕ) (r : Fin 96) (q : Fin 1536) : rd (s := S96x1536) (pk D c k) (ix2 r q) = term D c (chunk c k) r q := by
  have e := Ideal.matmul_plain_apply (M := 96) (K := 768) (N := 1536) (φ₁ := .f32) (φ₂ := .f32) none (rowsOf D c k) (D.b c : FVec Ideal S768x1536 .f32)
    (constant S96x1536 .f32 0x00000000#32) r q
  have z : (constant S96x1536 .f32 0x00000000#32 : FVec Ideal S96x1536 .f32) (ix2 r q) = (0 : EReal) := Ideal.ofBits_zero_f32
  rw [z, zero_add] at e
  unfold pk part
  rw [shapeCast_self, shapeCast_self]
  refine e.trans (Finset.sum_congr rfl fun x _ => ?_)
  congr 1
  show rd (s := S1536x768) (φ := .f32) (D.a c) _ = rd (s := S1536x768) (φ := .f32) (D.a c) _
  congr 1
  funext a
  match a with
  | ⟨0, _⟩ => exact Fin.ext (by show 96 * (chunk c k).val + 1 * r.val = 96 * (chunk c k).val + r.val; omega)
  | ⟨1, _⟩ => exact Fin.ext (by show 0 + 1 * x.val = x.val; omega)

/-- The columns a chain carries of a product. -/
theorem cols_apply (lo : ℕ) (h : S96x1536.Slices ![0, lo] S96x384) (p : FVec Ideal S96x1536 .f32) (r : Fin 96) (x : Fin 384) (q : Fin 1536)
    (hq : q.val = lo + x.val) : rd (s := S96x384) (cols lo h p) (ix2 r x) = rd (s := S96x1536) (p) (ix2 r q) := by
  unfold cols
  refine extractStridedSlice_apply _ _ _ _ _ ?_
  intro a
  match a with
  | ⟨0, _⟩ => show r.val = 0 + r.val; omega
  | ⟨1, _⟩ => exact hq

/-- What device `d` sends from slot `k` of a chain is the sum of the shares of the devices behind it. -/
theorem sent_apply (i : Fin 8) (r : Fin 96) (x : Fin 384) (q : Fin 1536) (hq : q.val = (chn i).lo + x.val) : ∀ (k : ℕ) (d : Dev nD),
    rd (s := S96x384) (sent D i k d) (ix2 r x)
      = ∑ j ∈ Finset.range (k + 1), term D ((src i)^[j] d) (chunk ((src i)^[j] d) (idx i (k - j))) r q
  | 0, d => by
    rw [Finset.sum_range_one]
    exact (cols_apply _ (chn i).hlo (pk D d (idx i 0)) r x q hq).trans (pk_apply D d _ r q)
  | k + 1, d => by
    rw [Finset.sum_range_succ']
    have ih := sent_apply i r x q hq k (src i d)
    have own := (cols_apply _ (chn i).hlo (pk D d (idx i (k + 1))) r x q hq).trans (pk_apply D d _ r q)
    have s : rd (s := S96x384) (sent D i (k + 1) d) (ix2 r x)
        = rd (s := S96x384) (sent D i k (src i d)) (ix2 r x) + rd (s := S96x384) (cols _ (chn i).hlo (pk D d (idx i (k + 1)))) (ix2 r x) := rfl
    rw [s, ih, own]
    congr 1
    refine Finset.sum_congr rfl fun j _ => ?_
    rw [Function.iterate_succ_apply, show k + 1 - (j + 1) = k - j by omega]

set_option backward.proofsInPublic true in
/-- The chunk a chain brings to a device is the device's own. -/
theorem chunk_long : ∀ i : Fin 8, ∀ j : Fin 8, ∀ c : Dev nD, i.val < 4 → chunk ((src i)^[j.val] (src i c)) (idx i (7 - j.val)) = c := by
  decide +kernel
theorem chunk_short : ∀ i : Fin 8, ∀ j : Fin 7, ∀ c : Dev nD, 4 ≤ i.val → chunk ((src i)^[j.val] (src i c)) (idx i (6 - j.val)) = c := by
  decide +kernel

/-- What a long chain brings to device `c`: the shares of the eight devices behind it. -/
theorem lastA_apply (i : Fin 8) (hi : i.val < 4) (c : Dev nD) (r : Fin 96) (x : Fin 384) (q : Fin 1536) (hq : q.val = (chn i).lo + x.val) :
    rd (s := S96x384) (lastA D i c) (ix2 r x) = ∑ j : Fin 8, term D ((src i)^[j.val] (src i c)) c r q := by
  rw [sent_apply D i r x q hq 7 (src i c), Finset.sum_range]
  exact Finset.sum_congr rfl fun j _ => by rw [chunk_long i j c hi]

/-- What a short chain brings to device `c`: the shares of the seven devices behind it. -/
theorem lastB_apply (i : Fin 8) (hi : 4 ≤ i.val) (c : Dev nD) (r : Fin 96) (x : Fin 384) (q : Fin 1536) (hq : q.val = (chn i).lo + x.val) :
    rd (s := S96x384) (lastB D i c) (ix2 r x) = ∑ j : Fin 7, term D ((src i)^[j.val] (src i c)) c r q := by
  rw [sent_apply D i r x q hq 6 (src i c), Finset.sum_range]
  exact Finset.sum_congr rfl fun j _ => by rw [chunk_short i j c hi]

/-- The devices in the order in which a long chain `i`, a short chain `l` and the device itself name them. -/
def around (i l : Fin 8) (c : Dev nD) (j : Fin 16) : Dev nD :=
  if j.val < 8 then (src i)^[j.val] (src i c) else if j.val < 15 then (src l)^[j.val - 8] (src l c) else c

/-- When the two chains run opposite ways, every device is named once. -/
theorem around_inj : ∀ c : Dev nD, (Function.Injective (around 0 5 c) ∧ Function.Injective (around 2 7 c))
    ∧ Function.Injective (around 1 4 c) ∧ Function.Injective (around 3 6 c) := by
  decide +kernel

/-- So what the two chains bring and the device's own share add up to all shares. -/
theorem around_sum (i l : Fin 8) (c : Dev nD) (h : Function.Injective (around i l c)) (g : Dev nD → EReal) :
    (∑ j : Fin 8, g ((src i)^[j.val] (src i c))) + (∑ j : Fin 7, g ((src l)^[j.val] (src l c))) + g c = ∑ d, g d := by
  have hb : Function.Bijective (around i l c) := Finite.injective_iff_bijective.mp h
  rw [← hb.sum_comp g, Fin.sum_univ_castSucc (n := 15)]
  congr 1
  exact (Fin.sum_univ_add (a := 8) (b := 7) (fun j : Fin 15 => g (around i l c j.castSucc))).symm

/-- A group of 384 columns of the result. -/
theorem final_apply (i l : Fin 8) (hi : i.val < 4) (hl : 4 ≤ l.val) (lo : ℕ) (ei : (chn i).lo = lo) (el : (chn l).lo = lo) (h : S96x1536.Slices ![0, lo] S96x384)
    (c : Dev nD) (inj : Function.Injective (around i l c)) (hc : chunk c 0 = c) (r : Fin 96) (x : Fin 384) (q : Fin 1536) (hq : q.val = lo + x.val) :
    rd (s := S96x384) (final lo h (pk D c 0) (lastA D i c) (lastB D l c)) (ix2 r x) = ∑ d, term D d c r q := by
  have e : rd (s := S96x384) (final lo h (pk D c 0) (lastA D i c) (lastB D l c)) (ix2 r x)
      = rd (s := S96x384) (lastA D i c) (ix2 r x) + rd (s := S96x384) (lastB D l c) (ix2 r x)
        + rd (s := S96x384) (cols lo h (pk D c 0)) (ix2 r x) := rfl
  rw [e, lastA_apply D i hi c r x q (by rw [ei]; exact hq), lastB_apply D l hl c r x q (by rw [el]; exact hq), cols_apply lo h _ r x q hq, pk_apply, hc]
  exact around_sum i l c inj fun d => term D d c r q

theorem chunk_own : ∀ c : Dev nD, chunk c 0 = c := by decide +kernel

/-- The result on device `c`, at an index: all devices' shares of the row of its own chunk. -/
theorem outAt_apply (c : Dev nD) (r : Fin 96) (q : Fin 1536) : rd (s := S96x1536) (φ := .f32) (outAt D c) (ix2 r q) = ∑ d, term D d c r q := by
  obtain ⟨⟨h0, h1⟩, h2, h3⟩ := around_inj c
  have hm : q.val % 384 < 384 := Nat.mod_lt _ (by decide)
  have hq : q.val < 1536 := q.isLt
  have key : ∀ j : Fin 4, q.val = 384 * j.val + q.val % 384 →
      rd (s := S96x384) (outCols D c j) (ix2 r ⟨q.val % 384, hm⟩) = ∑ d, term D d c r q := fun j => match j with
    | 0 => fun e => final_apply D 0 5 (by decide) (by decide) 0 rfl rfl _ c h0 (chunk_own c) r ⟨q.val % 384, hm⟩ q e
    | 1 => fun e => final_apply D 2 7 (by decide) (by decide) 384 rfl rfl _ c h1 (chunk_own c) r ⟨q.val % 384, hm⟩ q e
    | 2 => fun e => final_apply D 1 4 (by decide) (by decide) 768 rfl rfl _ c h2 (chunk_own c) r ⟨q.val % 384, hm⟩ q e
    | 3 => fun e => final_apply D 3 6 (by decide) (by decide) 1152 rfl rfl _ c h3 (chunk_own c) r ⟨q.val % 384, hm⟩ q e
  refine Eq.trans ?_ (key (Fin.ofNat 4 (q.val / 384)) (by show q.val = 384 * (q.val / 384 % 4) + q.val % 384; omega))
  show rd (s := S96x384) (outCols D c (Fin.ofNat 4 (q.val / 384))) _ = _
  congr 1
  funext a
  match a with
  | ⟨0, _⟩ => rfl
  | ⟨1, _⟩ => rfl

/-! ## The arrays -/

variable (m : (ℓ : Loc nD τ sig) → Buf (Elt Ideal) ℓ) (ρ : Dev nD → PrngReg)

/-- The operands are the argument arrays. -/
theorem opsOf_a (c : Dev nD) : (opsOf m ρ).a c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
theorem opsOf_b (c : Dev nD) : (opsOf m ρ).b c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

/-- The result array ends at the body's result. -/
theorem finalA_out (c : Dev nD) : finalA m ρ c (2 : Fin 3) = outAt (opsOf m ρ) c := by
  have hz : (fun a => (win0_2.index (0 : Fin 1)) a * main_v1.ty.shape.size a) = fun _ => 0 :=
    funext fun a => by fin_cases a <;> decide
  have hr := Memref.read_access_unit_zero (Elt Ideal) main_v1 hz (fun a => by fin_cases a <;> decide) (finalA m ρ c (2 : Fin 3))
  have hf : (win0_2.blk (0 : Fin 1)).view.read (Elt Ideal) (finalA m ρ c (2 : Fin 3)) = outAt (opsOf m ρ) c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact hr.symm.trans hf

/-! ## The claim -/

/-- The sum over the whole inner dimension, device by device. -/
theorem sum_blocks (f : Fin 12288 → EReal) :
    ∑ k, f k = ∑ d : Fin 16, ∑ k : Fin 768, f ⟨d.val * 768 + k.val, by have := d.isLt; have := k.isLt; omega⟩ := by
  rw [← Fintype.sum_prod_type', ← (finProdFinEquiv (m := 16) (n := 768)).sum_comp]
  refine Finset.sum_congr rfl fun p _ => ?_
  congr 1
  exact Fin.ext (by show p.2.val + 768 * p.1.val = p.1.val * 768 + p.2.val; omega)

/-- The product of the whole arrays, as the reference computes it. -/
abbrev whole (A : FVec Ideal Cert.ReferenceIdeal.S1536x12288 .f32) (B : FVec Ideal Cert.ReferenceIdeal.S12288x1536 .f32) :
    FVec Ideal Cert.ReferenceIdeal.S1536x1536 .f32 :=
  Host.dotGeneral Cert.ReferenceIdeal.dot_S1536x12288_S12288x1536_S1536x1536_1_0_0_1_n_n none A B

/-- Where the devices hold the blocks of two arrays, device `c`'s result is block `c` of the arrays' product. -/
theorem outAt_block (A : FVec Ideal Cert.ReferenceIdeal.S1536x12288 .f32) (B : FVec Ideal Cert.ReferenceIdeal.S12288x1536 .f32)
    (ha : ∀ d, D.a d = Layout.block ⟨2, ![1536, 768]⟩ ⟨2, ![1536, 12288]⟩ 1 16 d A)
    (hb : ∀ d, D.b d = Layout.block ⟨2, ![768, 1536]⟩ ⟨2, ![12288, 1536]⟩ 0 16 d B) (c : Dev nD) :
    outAt D c = Layout.block ⟨2, ![96, 1536]⟩ ⟨2, ![1536, 1536]⟩ 0 16 c (whole A B) := by
  funext y
  obtain ⟨r, q, rfl⟩ : ∃ (r : Fin 96) (q : Fin 1536), y = ix2 r q := ⟨y 0, y 1, eq_ix2 y⟩
  refine (outAt_apply D c r q).trans ?_
  have hc : c.val < 16 := c.isLt
  have hw := Idealize.ShloMosaic.StackMember.dotGeneral_plain_apply (m := 1536) (k := 12288) (n := 1536) none A B ⟨c.val * 96 + r.val, by omega⟩ q
  have hy : Layout.block ⟨2, ![96, 1536]⟩ ⟨2, ![1536, 1536]⟩ 0 16 c (whole A B) (by decide) (ix2 r q)
      = whole A B (ix2 ⟨c.val * 96 + r.val, by omega⟩ q) := by
    rw [Layout.block_apply]
    refine congrArg (whole A B) ?_
    funext a
    match a with
    | ⟨0, _⟩ => rfl
    | ⟨1, _⟩ => rfl
  refine Eq.trans ?_ (hy.trans hw).symm
  rw [sum_blocks]
  refine Finset.sum_congr rfl fun d _ => Finset.sum_congr rfl fun k _ => ?_
  unfold aAt bAt
  rw [ha d, hb d]
  have e1 : rd (s := S1536x768) (φ := .f32) (Layout.block ⟨2, ![1536, 768]⟩ ⟨2, ![1536, 12288]⟩ 1 16 d A) (ix2 ⟨96 * c.val + r.val, by omega⟩ k)
      = rd A (ix2 ⟨c.val * 96 + r.val, by omega⟩ ⟨d.val * 768 + k.val, by have : d.val < 16 := d.isLt; omega⟩) := by
    show rd A _ = rd A _
    refine congrArg (rd A) ?_
    funext a
    match a with
    | ⟨0, _⟩ => exact Fin.ext (by show 96 * c.val + r.val = c.val * 96 + r.val; omega)
    | ⟨1, _⟩ => rfl
  have e2 : rd (s := S768x1536) (φ := .f32) (Layout.block ⟨2, ![768, 1536]⟩ ⟨2, ![12288, 1536]⟩ 0 16 d B) (ix2 k q)
      = rd B (ix2 ⟨d.val * 768 + k.val, by have : d.val < 16 := d.isLt; omega⟩ q) := by
    show rd B _ = rd B _
    refine congrArg (rd B) ?_
    funext a
    match a with
    | ⟨0, _⟩ => rfl
    | ⟨1, _⟩ => rfl
  exact congrArg₂ (fun x y : EReal => x * y) e1 e2

/-- The idealized kernel computes the reference: from the blocks of two arrays, every device ends with its block of their product. -/
theorem algebraic : Cert.algebraic_KernelIdeal_ReferenceIdeal := fun m ρ m' ρ' _ hag =>
  ⟨_, (θ_run Cert.KernelIdeal.defs _ _).mono
      (fun _ h c => ⟨((h.1 c (2 : Fin 3)).trans (finalA_out m ρ c)).trans
          (outAt_block (opsOf m ρ) _ _ (fun d => (opsOf_a m ρ d).trans (hag d).1) (fun d => (opsOf_b m ρ d).trans (hag d).2) c),
        (h.1 c (0 : Fin 3)).trans (finalA_a m ρ c), (h.1 c (1 : Fin 3)).trans (finalA_b m ρ c)⟩)
      (run_main (F := Ideal) m ρ),
    (θ_run Cert.ReferenceIdeal.defs _ _).mono (fun _ h => h 0) (Cert.ReferenceIdeal.Value.run (F := Ideal) m' ρ')⟩

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims: the three frames, the idealization, which rewrites nothing, and the equation with the reference. -/
theorem claim : Cert.Claim := ⟨Cert.Kernel.Gen.facts, Cert.KernelIdeal.Gen.facts, Cert.ReferenceIdeal.Gen.facts,
  Cert.RingProof.frame_kernel, Cert.RingProof.frame_kernelIdeal, Cert.RingProof.frame_referenceIdeal, trivial, Cert.RingProof.algebraic⟩

end Cert.Proof

end
